-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5_1)) (v1 : (c : Dev Cert.KernelIdeal.nD) → Buf (Elt Ideal) ((c.tc : Thread Cert.KernelIdeal.nD Cert.KernelIdeal.τ).loc Cert.KernelIdeal.main_v5_2)) (v2 : (c : Dev Cert.KernelIdeal.nD) → Buf (Elt Ideal) ((c.tc : Thread Cert.KernelIdeal.nD Cert.KernelIdeal.τ).loc Cert.KernelIdeal.main_v5_3)) (v3 : (c : Dev Cert.KernelIdeal.nD) → Buf (Elt Ideal) ((c.tc : Thread Cert.KernelIdeal.nD Cert.KernelIdeal.τ).loc Cert.KernelIdeal.main_v5_4)) (v4 : (c : Dev Cert.KernelIdeal.nD) → Buf (Elt Ideal) ((c.tc : Thread Cert.KernelIdeal.nD Cert.KernelIdeal.τ).loc Cert.KernelIdeal.main_v5_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_1) = v0 c
          ∧ r.2.mem ((c.tc : Thread Cert.KernelIdeal.nD Cert.KernelIdeal.τ).loc Cert.KernelIdeal.main_v5_2) = v1 c
          ∧ r.2.mem ((c.tc : Thread Cert.KernelIdeal.nD Cert.KernelIdeal.τ).loc Cert.KernelIdeal.main_v5_3) = v2 c
          ∧ r.2.mem ((c.tc : Thread Cert.KernelIdeal.nD Cert.KernelIdeal.τ).loc Cert.KernelIdeal.main_v5_4) = v3 c
          ∧ r.2.mem ((c.tc : Thread Cert.KernelIdeal.nD Cert.KernelIdeal.τ).loc Cert.KernelIdeal.main_v5_5) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v71) = v3 c
          ∧ r.2.mem ((c.tc : Thread Cert.ReferenceIdeal.nD Cert.ReferenceIdeal.τ).loc Cert.ReferenceIdeal.main_v72) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S30x1024x4096 : Shape := ⟨3, ![30, 1024, 4096]⟩
abbrev S4096 : Shape := ⟨1, ![4096]⟩
abbrev S30720x4096 : Shape := ⟨2, ![30720, 4096]⟩
abbrev S1x4096 : Shape := ⟨2, ![1, 4096]⟩
abbrev S32x30720 : Shape := ⟨2, ![32, 30720]⟩
abbrev S4096x30720 : Shape := ⟨2, ![4096, 30720]⟩
abbrev S60x4x1x4096 : Shape := ⟨4, ![60, 4, 1, 4096]⟩
abbrev S60x4x1x128 : Shape := ⟨4, ![60, 4, 1, 128]⟩
abbrev S512x4096 : Shape := ⟨2, ![512, 4096]⟩
abbrev S32x512 : Shape := ⟨2, ![32, 512]⟩
abbrev S4096x512 : Shape := ⟨2, ![4096, 512]⟩
abbrev S1x4x1x4096 : Shape := ⟨4, ![1, 4, 1, 4096]⟩
abbrev S1x4x1x128 : Shape := ⟨4, ![1, 4, 1, 128]⟩
abbrev S128x4096 : Shape := ⟨2, ![128, 4096]⟩
abbrev S128x128 : Shape := ⟨2, ![128, 128]⟩
abbrev S128x256 : Shape := ⟨2, ![128, 256]⟩
abbrev S8x4096 : Shape := ⟨2, ![8, 4096]⟩
abbrev S8x128 : Shape := ⟨2, ![8, 128]⟩
abbrev S128 : Shape := ⟨1, ![128]⟩
abbrev S128x1 : Shape := ⟨2, ![128, 1]⟩
abbrev S1x128 : Shape := ⟨2, ![1, 128]⟩
abbrev S1x1x1x128 : Shape := ⟨4, ![1, 1, 1, 128]⟩
abbrev S256x256 : Shape := ⟨2, ![256, 256]⟩
abbrev S4x128 : Shape := ⟨2, ![4, 128]⟩
abbrev S2x128 : Shape := ⟨2, ![2, 128]⟩
abbrev S32x128 : Shape := ⟨2, ![32, 128]⟩

abbrev nBuf : Space → Nat
  | .hbm => 14
  | .vmem => 20
  | .smem => 0
  | _ => 0

abbrev bufTy : (tb : Table) → Fin (tcTables nBuf tb) → BufTy
  | .hbm, ⟨0, _⟩ => ⟨S30x1024x4096, .bf16⟩
  | .hbm, ⟨1, _⟩ => ⟨S4096, .bf16⟩
  | .hbm, ⟨2, _⟩ => ⟨S4096, .bf16⟩
  | .hbm, ⟨3, _⟩ => ⟨S30720x4096, .bf16⟩
  | .hbm, ⟨4, _⟩ => ⟨S4096, .f32⟩
  | .hbm, ⟨5, _⟩ => ⟨S1x4096, .f32⟩
  | .hbm, ⟨6, _⟩ => ⟨S4096, .f32⟩
  | .hbm, ⟨7, _⟩ => ⟨S1x4096, .f32⟩
  | .hbm, ⟨8, _⟩ => ⟨S30720x4096, .fp8e4m3⟩
  | .hbm, ⟨9, _⟩ => ⟨S32x30720, .f32⟩
  | .hbm, ⟨10, _⟩ => ⟨S4096x30720, .fp8e4m3⟩
  | .hbm, ⟨11, _⟩ => ⟨S60x4x1x4096, .f32⟩
  | .hbm, ⟨12, _⟩ => ⟨S60x4x1x128, .f32⟩
  | .hbm, ⟨13, _⟩ => ⟨S60x4x1x128, .f32⟩
  | .local _ .vmem, ⟨0, _⟩ => ⟨S512x4096, .bf16⟩
  | .local _ .vmem, ⟨1, _⟩ => ⟨S512x4096, .bf16⟩
  | .local _ .vmem, ⟨2, _⟩ => ⟨S1x4096, .f32⟩
  | .local _ .vmem, ⟨3, _⟩ => ⟨S1x4096, .f32⟩
  | .local _ .vmem, ⟨4, _⟩ => ⟨S512x4096, .fp8e4m3⟩
  | .local _ .vmem, ⟨5, _⟩ => ⟨S512x4096, .fp8e4m3⟩
  | .local _ .vmem, ⟨6, _⟩ => ⟨S32x512, .f32⟩
  | .local _ .vmem, ⟨7, _⟩ => ⟨S32x512, .f32⟩
  | .local _ .vmem, ⟨8, _⟩ => ⟨S4096x512, .fp8e4m3⟩
  | .local _ .vmem, ⟨9, _⟩ => ⟨S4096x512, .fp8e4m3⟩
  | .local _ .vmem, ⟨10, _⟩ => ⟨S1x4x1x4096, .f32⟩
  | .local _ .vmem, ⟨11, _⟩ => ⟨S1x4x1x4096, .f32⟩
  | .local _ .vmem, ⟨12, _⟩ => ⟨S1x4x1x128, .f32⟩
  | .local _ .vmem, ⟨13, _⟩ => ⟨S1x4x1x128, .f32⟩
  | .local _ .vmem, ⟨14, _⟩ => ⟨S1x4x1x128, .f32⟩
  | .local _ .vmem, ⟨15, _⟩ => ⟨S1x4x1x128, .f32⟩
  | .local _ .vmem, ⟨16, _⟩ => ⟨S128x4096, .f32⟩
  | .local _ .vmem, ⟨17, _⟩ => ⟨S128x128, .f32⟩
  | .local _ .vmem, ⟨18, _⟩ => ⟨S128x128, .f32⟩
  | .local _ .vmem, ⟨19, _⟩ => ⟨S128x4096, .bf16⟩
  | _, _ => ⟨S30x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev main_v5_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![60], ![false]⟩

@[reducible] def k0_t1_loop : Scf.Loop 32 :=
  let c0_i32_5 : BitVec 32 := 0#32
  let c4_i32 : BitVec 32 := 4#32
  let v26 : BitVec 32 := Scalar.addi c0_i32_5 c4_i32
  let c1_i32 : BitVec 32 := 1#32
  ⟨c0_i32_5, v26, c1_i32⟩
def k0_mult1 (k0_t1 : Fin k0_t1_loop.trips) : BitVec 32 :=
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  v29
def k0_off1 (k0_t1 : Fin k0_t1_loop.trips) (c0_i32_9 : BitVec 32) : Fin 2 → Nat :=
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v31 : BitVec 32 := Scalar.addi v30 c0_i32_9
  let c0_i32_10 : BitVec 32 := 0#32
  ![v31.toNat, 0]
def k0_off2 (k0_t1 : Fin k0_t1_loop.trips) : Fin 4 → Nat :=
  let c0_1519 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v2603 : Index := Scalar.indexCast v28
  let c0_1520 : Index := 0#32
  let c0_1521 : Index := 0#32
  ![0, v2603.toNat, 0, 0]
def k0_off3 (k0_t1 : Fin k0_t1_loop.trips) : Fin 2 → Nat :=
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v2632 : Index := Scalar.indexCast v30
  let c0_1528 : Index := 0#32
  ![v2632.toNat, 0]
def k0_off4 (k0_t1 : Fin k0_t1_loop.trips) : Fin 2 → Nat :=
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v2645 : Index := Scalar.indexCast v30
  let c256_1532 : Index := 256#32
  ![v2645.toNat, 256]
def k0_off5 (k0_t1 : Fin k0_t1_loop.trips) : Fin 2 → Nat :=
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v2659 : Index := Scalar.indexCast v30
  let c512_1536 : Index := 512#32
  ![v2659.toNat, 512]
def k0_off6 (k0_t1 : Fin k0_t1_loop.trips) : Fin 2 → Nat :=
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v2673 : Index := Scalar.indexCast v30
  let c768_1540 : Index := 768#32
  ![v2673.toNat, 768]
def k0_off7 (k0_t1 : Fin k0_t1_loop.trips) : Fin 2 → Nat :=
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v2687 : Index := Scalar.indexCast v30
  let c1024_1544 : Index := 1024#32
  ![v2687.toNat, 1024]
def k0_off8 (k0_t1 : Fin k0_t1_loop.trips) : Fin 2 → Nat :=
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v2701 : Index := Scalar.indexCast v30
  let c1280_1548 : Index := 1280#32
  ![v2701.toNat, 1280]
def k0_off9 (k0_t1 : Fin k0_t1_loop.trips) : Fin 2 → Nat :=
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v2715 : Index := Scalar.indexCast v30
  let c1536_1552 : Index := 1536#32
  ![v2715.toNat, 1536]
def k0_off10 (k0_t1 : Fin k0_t1_loop.trips) : Fin 2 → Nat :=
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v2729 : Index := Scalar.indexCast v30
  let c1792_1556 : Index := 1792#32
  ![v2729.toNat, 1792]
def k0_off11 (k0_t1 : Fin k0_t1_loop.trips) : Fin 2 → Nat :=
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v2743 : Index := Scalar.indexCast v30
  let c2048_1560 : Index := 2048#32
  ![v2743.toNat, 2048]
def k0_off12 (k0_t1 : Fin k0_t1_loop.trips) : Fin 2 → Nat :=
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v2757 : Index := Scalar.indexCast v30
  let c2304_1564 : Index := 2304#32
  ![v2757.toNat, 2304]
def k0_off13 (k0_t1 : Fin k0_t1_loop.trips) : Fin 2 → Nat :=
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v2771 : Index := Scalar.indexCast v30
  let c2560_1568 : Index := 2560#32
  ![v2771.toNat, 2560]
def k0_off14 (k0_t1 : Fin k0_t1_loop.trips) : Fin 2 → Nat :=
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v2785 : Index := Scalar.indexCast v30
  let c2816_1572 : Index := 2816#32
  ![v2785.toNat, 2816]
def k0_off15 (k0_t1 : Fin k0_t1_loop.trips) : Fin 2 → Nat :=
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v2799 : Index := Scalar.indexCast v30
  let c3072_1576 : Index := 3072#32
  ![v2799.toNat, 3072]
def k0_off16 (k0_t1 : Fin k0_t1_loop.trips) : Fin 2 → Nat :=
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v2813 : Index := Scalar.indexCast v30
  let c3328_1580 : Index := 3328#32
  ![v2813.toNat, 3328]
def k0_off17 (k0_t1 : Fin k0_t1_loop.trips) : Fin 2 → Nat :=
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v2827 : Index := Scalar.indexCast v30
  let c3584_1584 : Index := 3584#32
  ![v2827.toNat, 3584]
def k0_off18 (k0_t1 : Fin k0_t1_loop.trips) : Fin 2 → Nat :=
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v2841 : Index := Scalar.indexCast v30
  let c3840_1588 : Index := 3840#32
  ![v2841.toNat, 3840]
def k0_off19 (k0_t1 : Fin k0_t1_loop.trips) : Fin 4 → Nat :=
  let c0_1635 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v2994 : Index := Scalar.indexCast v28
  let c0_1636 : Index := 0#32
  let c0_1637 : Index := 0#32
  ![0, v2994.toNat, 0, 0]
def k0_off20 (k0_t1 : Fin k0_t1_loop.trips) : Fin 2 → Nat :=
  let c0_1661 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v3065 : Index := Scalar.indexCast v30
  ![0, v3065.toNat]
def k0_off21 (k0_t1 : Fin k0_t1_loop.trips) : Fin 4 → Nat :=
  let c0_1697 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v3150 : Index := Scalar.indexCast v28
  let c0_1698 : Index := 0#32
  let c128_1699 : Index := 128#32
  ![0, v3150.toNat, 0, 128]
def k0_off22 (k0_t1 : Fin k0_t1_loop.trips) : Fin 2 → Nat :=
  let c128_1723 : Index := 128#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v3221 : Index := Scalar.indexCast v30
  ![128, v3221.toNat]
def k0_off23 (k0_t1 : Fin k0_t1_loop.trips) : Fin 4 → Nat :=
  let c0_1759 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v3306 : Index := Scalar.indexCast v28
  let c0_1760 : Index := 0#32
  let c256_1761 : Index := 256#32
  ![0, v3306.toNat, 0, 256]
def k0_off24 (k0_t1 : Fin k0_t1_loop.trips) : Fin 2 → Nat :=
  let c256_1785 : Index := 256#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v3377 : Index := Scalar.indexCast v30
  ![256, v3377.toNat]
def k0_off25 (k0_t1 : Fin k0_t1_loop.trips) : Fin 4 → Nat :=
  let c0_1821 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v3462 : Index := Scalar.indexCast v28
  let c0_1822 : Index := 0#32
  let c384_1823 : Index := 384#32
  ![0, v3462.toNat, 0, 384]
def k0_off26 (k0_t1 : Fin k0_t1_loop.trips) : Fin 2 → Nat :=
  let c384_1847 : Index := 384#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v3533 : Index := Scalar.indexCast v30
  ![384, v3533.toNat]
def k0_off27 (k0_t1 : Fin k0_t1_loop.trips) : Fin 4 → Nat :=
  let c0_1883 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v3618 : Index := Scalar.indexCast v28
  let c0_1884 : Index := 0#32
  let c512_1885 : Index := 512#32
  ![0, v3618.toNat, 0, 512]
def k0_off28 (k0_t1 : Fin k0_t1_loop.trips) : Fin 2 → Nat :=
  let c512_1909 : Index := 512#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v3689 : Index := Scalar.indexCast v30
  ![512, v3689.toNat]
def k0_off29 (k0_t1 : Fin k0_t1_loop.trips) : Fin 4 → Nat :=
  let c0_1945 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v3774 : Index := Scalar.indexCast v28
  let c0_1946 : Index := 0#32
  let c640_1947 : Index := 640#32
  ![0, v3774.toNat, 0, 640]
def k0_off30 (k0_t1 : Fin k0_t1_loop.trips) : Fin 2 → Nat :=
  let c640_1971 : Index := 640#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v3845 : Index := Scalar.indexCast v30
  ![640, v3845.toNat]
def k0_off31 (k0_t1 : Fin k0_t1_loop.trips) : Fin 4 → Nat :=
  let c0_2007 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v3930 : Index := Scalar.indexCast v28
  let c0_2008 : Index := 0#32
  let c768_2009 : Index := 768#32
  ![0, v3930.toNat, 0, 768]
def k0_off32 (k0_t1 : Fin k0_t1_loop.trips) : Fin 2 → Nat :=
  let c768_2033 : Index := 768#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v4001 : Index := Scalar.indexCast v30
  ![768, v4001.toNat]
def k0_off33 (k0_t1 : Fin k0_t1_loop.trips) : Fin 4 → Nat :=
  let c0_2069 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v4086 : Index := Scalar.indexCast v28
  let c0_2070 : Index := 0#32
  let c896_2071 : Index := 896#32
  ![0, v4086.toNat, 0, 896]
def k0_off34 (k0_t1 : Fin k0_t1_loop.trips) : Fin 2 → Nat :=
  let c896_2095 : Index := 896#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v4157 : Index := Scalar.indexCast v30
  ![896, v4157.toNat]
def k0_off35 (k0_t1 : Fin k0_t1_loop.trips) : Fin 4 → Nat :=
  let c0_2131 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v4242 : Index := Scalar.indexCast v28
  let c0_2132 : Index := 0#32
  let c1024_2133 : Index := 1024#32
  ![0, v4242.toNat, 0, 1024]
def k0_off36 (k0_t1 : Fin k0_t1_loop.trips) : Fin 2 → Nat :=
  let c1024_2157 : Index := 1024#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v4313 : Index := Scalar.indexCast v30
  ![1024, v4313.toNat]
def k0_off37 (k0_t1 : Fin k0_t1_loop.trips) : Fin 4 → Nat :=
  let c0_2193 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v4398 : Index := Scalar.indexCast v28
  let c0_2194 : Index := 0#32
  let c1152_2195 : Index := 1152#32
  ![0, v4398.toNat, 0, 1152]
def k0_off38 (k0_t1 : Fin k0_t1_loop.trips) : Fin 2 → Nat :=
  let c1152_2219 : Index := 1152#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v4469 : Index := Scalar.indexCast v30
  ![1152, v4469.toNat]
def k0_off39 (k0_t1 : Fin k0_t1_loop.trips) : Fin 4 → Nat :=
  let c0_2255 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v4554 : Index := Scalar.indexCast v28
  let c0_2256 : Index := 0#32
  let c1280_2257 : Index := 1280#32
  ![0, v4554.toNat, 0, 1280]
def k0_off40 (k0_t1 : Fin k0_t1_loop.trips) : Fin 2 → Nat :=
  let c1280_2281 : Index := 1280#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v4625 : Index := Scalar.indexCast v30
  ![1280, v4625.toNat]
def k0_off41 (k0_t1 : Fin k0_t1_loop.trips) : Fin 4 → Nat :=
  let c0_2317 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v4710 : Index := Scalar.indexCast v28
  let c0_2318 : Index := 0#32
  let c1408_2319 : Index := 1408#32
  ![0, v4710.toNat, 0, 1408]
def k0_off42 (k0_t1 : Fin k0_t1_loop.trips) : Fin 2 → Nat :=
  let c1408_2343 : Index := 1408#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v4781 : Index := Scalar.indexCast v30
  ![1408, v4781.toNat]
def k0_off43 (k0_t1 : Fin k0_t1_loop.trips) : Fin 4 → Nat :=
  let c0_2379 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v4866 : Index := Scalar.indexCast v28
  let c0_2380 : Index := 0#32
  let c1536_2381 : Index := 1536#32
  ![0, v4866.toNat, 0, 1536]
def k0_off44 (k0_t1 : Fin k0_t1_loop.trips) : Fin 2 → Nat :=
  let c1536_2405 : Index := 1536#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v4937 : Index := Scalar.indexCast v30
  ![1536, v4937.toNat]
def k0_off45 (k0_t1 : Fin k0_t1_loop.trips) : Fin 4 → Nat :=
  let c0_2441 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v5022 : Index := Scalar.indexCast v28
  let c0_2442 : Index := 0#32
  let c1664_2443 : Index := 1664#32
  ![0, v5022.toNat, 0, 1664]
def k0_off46 (k0_t1 : Fin k0_t1_loop.trips) : Fin 2 → Nat :=
  let c1664_2467 : Index := 1664#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v5093 : Index := Scalar.indexCast v30
  ![1664, v5093.toNat]
def k0_off47 (k0_t1 : Fin k0_t1_loop.trips) : Fin 4 → Nat :=
  let c0_2503 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v5178 : Index := Scalar.indexCast v28
  let c0_2504 : Index := 0#32
  let c1792_2505 : Index := 1792#32
  ![0, v5178.toNat, 0, 1792]
def k0_off48 (k0_t1 : Fin k0_t1_loop.trips) : Fin 2 → Nat :=
  let c1792_2529 : Index := 1792#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v5249 : Index := Scalar.indexCast v30
  ![1792, v5249.toNat]
def k0_off49 (k0_t1 : Fin k0_t1_loop.trips) : Fin 4 → Nat :=
  let c0_2565 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v5334 : Index := Scalar.indexCast v28
  let c0_2566 : Index := 0#32
  let c1920_2567 : Index := 1920#32
  ![0, v5334.toNat, 0, 1920]
def k0_off50 (k0_t1 : Fin k0_t1_loop.trips) : Fin 2 → Nat :=
  let c1920_2591 : Index := 1920#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v5405 : Index := Scalar.indexCast v30
  ![1920, v5405.toNat]
def k0_off51 (k0_t1 : Fin k0_t1_loop.trips) : Fin 4 → Nat :=
  let c0_2627 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v5490 : Index := Scalar.indexCast v28
  let c0_2628 : Index := 0#32
  let c2048_2629 : Index := 2048#32
  ![0, v5490.toNat, 0, 2048]
def k0_off52 (k0_t1 : Fin k0_t1_loop.trips) : Fin 2 → Nat :=
  let c2048_2653 : Index := 2048#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v5561 : Index := Scalar.indexCast v30
  ![2048, v5561.toNat]
def k0_off53 (k0_t1 : Fin k0_t1_loop.trips) : Fin 4 → Nat :=
  let c0_2689 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v5646 : Index := Scalar.indexCast v28
  let c0_2690 : Index := 0#32
  let c2176_2691 : Index := 2176#32
  ![0, v5646.toNat, 0, 2176]
def k0_off54 (k0_t1 : Fin k0_t1_loop.trips) : Fin 2 → Nat :=
  let c2176_2715 : Index := 2176#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v5717 : Index := Scalar.indexCast v30
  ![2176, v5717.toNat]
def k0_off55 (k0_t1 : Fin k0_t1_loop.trips) : Fin 4 → Nat :=
  let c0_2751 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v5802 : Index := Scalar.indexCast v28
  let c0_2752 : Index := 0#32
  let c2304_2753 : Index := 2304#32
  ![0, v5802.toNat, 0, 2304]
def k0_off56 (k0_t1 : Fin k0_t1_loop.trips) : Fin 2 → Nat :=
  let c2304_2777 : Index := 2304#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v5873 : Index := Scalar.indexCast v30
  ![2304, v5873.toNat]
def k0_off57 (k0_t1 : Fin k0_t1_loop.trips) : Fin 4 → Nat :=
  let c0_2813 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v5958 : Index := Scalar.indexCast v28
  let c0_2814 : Index := 0#32
  let c2432_2815 : Index := 2432#32
  ![0, v5958.toNat, 0, 2432]
def k0_off58 (k0_t1 : Fin k0_t1_loop.trips) : Fin 2 → Nat :=
  let c2432_2839 : Index := 2432#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v6029 : Index := Scalar.indexCast v30
  ![2432, v6029.toNat]
def k0_off59 (k0_t1 : Fin k0_t1_loop.trips) : Fin 4 → Nat :=
  let c0_2875 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v6114 : Index := Scalar.indexCast v28
  let c0_2876 : Index := 0#32
  let c2560_2877 : Index := 2560#32
  ![0, v6114.toNat, 0, 2560]
def k0_off60 (k0_t1 : Fin k0_t1_loop.trips) : Fin 2 → Nat :=
  let c2560_2901 : Index := 2560#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v6185 : Index := Scalar.indexCast v30
  ![2560, v6185.toNat]
def k0_off61 (k0_t1 : Fin k0_t1_loop.trips) : Fin 4 → Nat :=
  let c0_2937 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v6270 : Index := Scalar.indexCast v28
  let c0_2938 : Index := 0#32
  let c2688_2939 : Index := 2688#32
  ![0, v6270.toNat, 0, 2688]
def k0_off62 (k0_t1 : Fin k0_t1_loop.trips) : Fin 2 → Nat :=
  let c2688_2963 : Index := 2688#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v6341 : Index := Scalar.indexCast v30
  ![2688, v6341.toNat]
def k0_off63 (k0_t1 : Fin k0_t1_loop.trips) : Fin 4 → Nat :=
  let c0_2999 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v6426 : Index := Scalar.indexCast v28
  let c0_3000 : Index := 0#32
  let c2816_3001 : Index := 2816#32
  ![0, v6426.toNat, 0, 2816]
def k0_off64 (k0_t1 : Fin k0_t1_loop.trips) : Fin 2 → Nat :=
  let c2816_3025 : Index := 2816#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v6497 : Index := Scalar.indexCast v30
  ![2816, v6497.toNat]
def k0_off65 (k0_t1 : Fin k0_t1_loop.trips) : Fin 4 → Nat :=
  let c0_3061 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v6582 : Index := Scalar.indexCast v28
  let c0_3062 : Index := 0#32
  let c2944_3063 : Index := 2944#32
  ![0, v6582.toNat, 0, 2944]
def k0_off66 (k0_t1 : Fin k0_t1_loop.trips) : Fin 2 → Nat :=
  let c2944_3087 : Index := 2944#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v6653 : Index := Scalar.indexCast v30
  ![2944, v6653.toNat]
def k0_off67 (k0_t1 : Fin k0_t1_loop.trips) : Fin 4 → Nat :=
  let c0_3123 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v6738 : Index := Scalar.indexCast v28
  let c0_3124 : Index := 0#32
  let c3072_3125 : Index := 3072#32
  ![0, v6738.toNat, 0, 3072]
def k0_off68 (k0_t1 : Fin k0_t1_loop.trips) : Fin 2 → Nat :=
  let c3072_3149 : Index := 3072#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v6809 : Index := Scalar.indexCast v30
  ![3072, v6809.toNat]
def k0_off69 (k0_t1 : Fin k0_t1_loop.trips) : Fin 4 → Nat :=
  let c0_3185 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v6894 : Index := Scalar.indexCast v28
  let c0_3186 : Index := 0#32
  let c3200_3187 : Index := 3200#32
  ![0, v6894.toNat, 0, 3200]
def k0_off70 (k0_t1 : Fin k0_t1_loop.trips) : Fin 2 → Nat :=
  let c3200_3211 : Index := 3200#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v6965 : Index := Scalar.indexCast v30
  ![3200, v6965.toNat]
def k0_off71 (k0_t1 : Fin k0_t1_loop.trips) : Fin 4 → Nat :=
  let c0_3247 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v7050 : Index := Scalar.indexCast v28
  let c0_3248 : Index := 0#32
  let c3328_3249 : Index := 3328#32
  ![0, v7050.toNat, 0, 3328]
def k0_off72 (k0_t1 : Fin k0_t1_loop.trips) : Fin 2 → Nat :=
  let c3328_3273 : Index := 3328#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v7121 : Index := Scalar.indexCast v30
  ![3328, v7121.toNat]
def k0_off73 (k0_t1 : Fin k0_t1_loop.trips) : Fin 4 → Nat :=
  let c0_3309 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v7206 : Index := Scalar.indexCast v28
  let c0_3310 : Index := 0#32
  let c3456_3311 : Index := 3456#32
  ![0, v7206.toNat, 0, 3456]
def k0_off74 (k0_t1 : Fin k0_t1_loop.trips) : Fin 2 → Nat :=
  let c3456_3335 : Index := 3456#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v7277 : Index := Scalar.indexCast v30
  ![3456, v7277.toNat]
def k0_off75 (k0_t1 : Fin k0_t1_loop.trips) : Fin 4 → Nat :=
  let c0_3371 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v7362 : Index := Scalar.indexCast v28
  let c0_3372 : Index := 0#32
  let c3584_3373 : Index := 3584#32
  ![0, v7362.toNat, 0, 3584]
def k0_off76 (k0_t1 : Fin k0_t1_loop.trips) : Fin 2 → Nat :=
  let c3584_3397 : Index := 3584#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v7433 : Index := Scalar.indexCast v30
  ![3584, v7433.toNat]
def k0_off77 (k0_t1 : Fin k0_t1_loop.trips) : Fin 4 → Nat :=
  let c0_3433 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v7518 : Index := Scalar.indexCast v28
  let c0_3434 : Index := 0#32
  let c3712_3435 : Index := 3712#32
  ![0, v7518.toNat, 0, 3712]
def k0_off78 (k0_t1 : Fin k0_t1_loop.trips) : Fin 2 → Nat :=
  let c3712_3459 : Index := 3712#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v7589 : Index := Scalar.indexCast v30
  ![3712, v7589.toNat]
def k0_off79 (k0_t1 : Fin k0_t1_loop.trips) : Fin 4 → Nat :=
  let c0_3495 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v7674 : Index := Scalar.indexCast v28
  let c0_3496 : Index := 0#32
  let c3840_3497 : Index := 3840#32
  ![0, v7674.toNat, 0, 3840]
def k0_off80 (k0_t1 : Fin k0_t1_loop.trips) : Fin 2 → Nat :=
  let c3840_3521 : Index := 3840#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v7745 : Index := Scalar.indexCast v30
  ![3840, v7745.toNat]
def k0_off81 (k0_t1 : Fin k0_t1_loop.trips) : Fin 4 → Nat :=
  let c0_3557 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let v7830 : Index := Scalar.indexCast v28
  let c0_3558 : Index := 0#32
  let c3968_3559 : Index := 3968#32
  ![0, v7830.toNat, 0, 3968]
def k0_off82 (k0_t1 : Fin k0_t1_loop.trips) : Fin 2 → Nat :=
  let c3968_3583 : Index := 3968#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v7901 : Index := Scalar.indexCast v30
  ![3968, v7901.toNat]
def k0_off83 (k0_t1 : Fin k0_t1_loop.trips) : Fin 2 → Nat :=
  let c0_3608 : Index := 0#32
  let c0_i32_8 : BitVec 32 := 0#32
  let c0_i32_5 : BitVec 32 := 0#32
  let c1_i32 : BitVec 32 := 1#32
  let arg14 : BitVec 32 := Scf.iv c0_i32_5 c1_i32 k0_t1
  let c1_i32_7 : BitVec 32 := 1#32
  let v27 : BitVec 32 := Scalar.muli arg14 c1_i32_7
  let v28 : BitVec 32 := Scalar.addi c0_i32_8 v27
  let c128_i32 : BitVec 32 := 128#32
  let v29 : BitVec 32 := Scalar.muli v28 c128_i32
  let v30 : BitVec 32 := v29
  let v7967 : Index := Scalar.indexCast v30
  ![0, v7967.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S30x1024x4096 : Shape := ⟨3, ![30, 1024, 4096]⟩
abbrev S4096 : Shape := ⟨1, ![4096]⟩
abbrev S30720x4096 : Shape := ⟨2, ![30720, 4096]⟩
abbrev S_ : Shape := ⟨0, ![]⟩
abbrev S30720 : Shape := ⟨1, ![30720]⟩
abbrev S30720x1 : Shape := ⟨2, ![30720, 1]⟩
abbrev S1x4096 : Shape := ⟨2, ![1, 4096]⟩
abbrev S240x128x4096 : Shape := ⟨3, ![240, 128, 4096]⟩
abbrev S240x4096 : Shape := ⟨2, ![240, 4096]⟩
abbrev S240x254x4096 : Shape := ⟨3, ![240, 254, 4096]⟩
abbrev S240x1x4096 : Shape := ⟨3, ![240, 1, 4096]⟩
abbrev S60x4x1x4096 : Shape := ⟨4, ![60, 4, 1, 4096]⟩
abbrev S4096x30720 : Shape := ⟨2, ![4096, 30720]⟩
abbrev S30720x32x128 : Shape := ⟨3, ![30720, 32, 128]⟩
abbrev S30720x32 : Shape := ⟨2, ![30720, 32]⟩
abbrev S30720x32x254 : Shape := ⟨3, ![30720, 32, 254]⟩
abbrev S30720x32x1 : Shape := ⟨3, ![30720, 32, 1]⟩
abbrev S32x30720 : Shape := ⟨2, ![32, 30720]⟩
abbrev S60x4x1x128 : Shape := ⟨4, ![60, 4, 1, 128]⟩

abbrev nBuf : Space → Nat
  | .hbm => 97
  | .vmem => 3
  | .smem => 0
  | _ => 0

abbrev bufTy : (tb : Table) → Fin (tcTables nBuf tb) → BufTy
  | .hbm, ⟨0, _⟩ => ⟨S30x1024x4096, .bf16⟩
  | .hbm, ⟨1, _⟩ => ⟨S4096, .bf16⟩
  | .hbm, ⟨2, _⟩ => ⟨S4096, .bf16⟩
  | .hbm, ⟨3, _⟩ => ⟨S30720x4096, .bf16⟩
  | .hbm, ⟨4, _⟩ => ⟨S30720x4096, .f32⟩
  | .hbm, ⟨5, _⟩ => ⟨S_, .f32⟩
  | .hbm, ⟨6, _⟩ => ⟨S30720, .f32⟩
  | .hbm, ⟨7, _⟩ => ⟨S_, .f32⟩
  | .hbm, ⟨8, _⟩ => ⟨S30720, .f32⟩
  | .hbm, ⟨9, _⟩ => ⟨S30720, .f32⟩
  | .hbm, ⟨10, _⟩ => ⟨S30720x1, .f32⟩
  | .hbm, ⟨11, _⟩ => ⟨S30720x4096, .f32⟩
  | .hbm, ⟨12, _⟩ => ⟨S30720x4096, .f32⟩
  | .hbm, ⟨13, _⟩ => ⟨S30720x4096, .f32⟩
  | .hbm, ⟨14, _⟩ => ⟨S_, .f32⟩
  | .hbm, ⟨15, _⟩ => ⟨S30720, .f32⟩
  | .hbm, ⟨16, _⟩ => ⟨S_, .f32⟩
  | .hbm, ⟨17, _⟩ => ⟨S30720, .f32⟩
  | .hbm, ⟨18, _⟩ => ⟨S30720, .f32⟩
  | .hbm, ⟨19, _⟩ => ⟨S_, .f32⟩
  | .hbm, ⟨20, _⟩ => ⟨S30720, .f32⟩
  | .hbm, ⟨21, _⟩ => ⟨S30720, .f32⟩
  | .hbm, ⟨22, _⟩ => ⟨S30720, .f32⟩
  | .hbm, ⟨23, _⟩ => ⟨S30720x1, .f32⟩
  | .hbm, ⟨24, _⟩ => ⟨S30720x4096, .f32⟩
  | .hbm, ⟨25, _⟩ => ⟨S30720x4096, .f32⟩
  | .hbm, ⟨26, _⟩ => ⟨S4096, .f32⟩
  | .hbm, ⟨27, _⟩ => ⟨S1x4096, .f32⟩
  | .hbm, ⟨28, _⟩ => ⟨S30720x4096, .f32⟩
  | .hbm, ⟨29, _⟩ => ⟨S30720x4096, .f32⟩
  | .hbm, ⟨30, _⟩ => ⟨S4096, .f32⟩
  | .hbm, ⟨31, _⟩ => ⟨S1x4096, .f32⟩
  | .hbm, ⟨32, _⟩ => ⟨S30720x4096, .f32⟩
  | .hbm, ⟨33, _⟩ => ⟨S30720x4096, .f32⟩
  | .hbm, ⟨34, _⟩ => ⟨S240x128x4096, .f32⟩
  | .hbm, ⟨35, _⟩ => ⟨S240x128x4096, .f32⟩
  | .hbm, ⟨36, _⟩ => ⟨S_, .f32⟩
  | .hbm, ⟨37, _⟩ => ⟨S240x4096, .f32⟩
  | .hbm, ⟨38, _⟩ => ⟨S240x254x4096, .f32⟩
  | .hbm, ⟨39, _⟩ => ⟨S_, .f32⟩
  | .hbm, ⟨40, _⟩ => ⟨S240x254x4096, .f32⟩
  | .hbm, ⟨41, _⟩ => ⟨S240x254x4096, .f32⟩
  | .hbm, ⟨42, _⟩ => ⟨S_, .f32⟩
  | .hbm, ⟨43, _⟩ => ⟨S240x254x4096, .f32⟩
  | .hbm, ⟨44, _⟩ => ⟨S240x254x4096, .f32⟩
  | .hbm, ⟨45, _⟩ => ⟨S_, .f32⟩
  | .hbm, ⟨46, _⟩ => ⟨S240x4096, .f32⟩
  | .hbm, ⟨47, _⟩ => ⟨S240x4096, .f32⟩
  | .hbm, ⟨48, _⟩ => ⟨S240x1x4096, .f32⟩
  | .hbm, ⟨49, _⟩ => ⟨S240x254x4096, .f32⟩
  | .hbm, ⟨50, _⟩ => ⟨S240x254x4096, .i1⟩
  | .hbm, ⟨51, _⟩ => ⟨S_, .f32⟩
  | .hbm, ⟨52, _⟩ => ⟨S240x254x4096, .f32⟩
  | .hbm, ⟨53, _⟩ => ⟨S240x254x4096, .f32⟩
  | .hbm, ⟨54, _⟩ => ⟨S_, .f32⟩
  | .hbm, ⟨55, _⟩ => ⟨S240x4096, .f32⟩
  | .hbm, ⟨56, _⟩ => ⟨S240x4096, .i1⟩
  | .hbm, ⟨57, _⟩ => ⟨S_, .f32⟩
  | .hbm, ⟨58, _⟩ => ⟨S240x4096, .f32⟩
  | .hbm, ⟨59, _⟩ => ⟨S_, .f32⟩
  | .hbm, ⟨60, _⟩ => ⟨S240x4096, .f32⟩
  | .hbm, ⟨61, _⟩ => ⟨S240x4096, .f32⟩
  | .hbm, ⟨62, _⟩ => ⟨S60x4x1x4096, .f32⟩
  | .hbm, ⟨63, _⟩ => ⟨S240x128x4096, .fp8e4m3⟩
  | .hbm, ⟨64, _⟩ => ⟨S30720x4096, .fp8e4m3⟩
  | .hbm, ⟨65, _⟩ => ⟨S4096x30720, .fp8e4m3⟩
  | .hbm, ⟨66, _⟩ => ⟨S30720x32x128, .f32⟩
  | .hbm, ⟨67, _⟩ => ⟨S30720x32x128, .f32⟩
  | .hbm, ⟨68, _⟩ => ⟨S_, .f32⟩
  | .hbm, ⟨69, _⟩ => ⟨S30720x32, .f32⟩
  | .hbm, ⟨70, _⟩ => ⟨S30720x32x254, .f32⟩
  | .hbm, ⟨71, _⟩ => ⟨S_, .f32⟩
  | .hbm, ⟨72, _⟩ => ⟨S30720x32x254, .f32⟩
  | .hbm, ⟨73, _⟩ => ⟨S30720x32x254, .f32⟩
  | .hbm, ⟨74, _⟩ => ⟨S_, .f32⟩
  | .hbm, ⟨75, _⟩ => ⟨S30720x32x254, .f32⟩
  | .hbm, ⟨76, _⟩ => ⟨S30720x32x254, .f32⟩
  | .hbm, ⟨77, _⟩ => ⟨S_, .f32⟩
  | .hbm, ⟨78, _⟩ => ⟨S30720x32, .f32⟩
  | .hbm, ⟨79, _⟩ => ⟨S30720x32, .f32⟩
  | .hbm, ⟨80, _⟩ => ⟨S30720x32x1, .f32⟩
  | .hbm, ⟨81, _⟩ => ⟨S30720x32x254, .f32⟩
  | .hbm, ⟨82, _⟩ => ⟨S30720x32x254, .i1⟩
  | .hbm, ⟨83, _⟩ => ⟨S_, .f32⟩
  | .hbm, ⟨84, _⟩ => ⟨S30720x32x254, .f32⟩
  | .hbm, ⟨85, _⟩ => ⟨S30720x32x254, .f32⟩
  | .hbm, ⟨86, _⟩ => ⟨S_, .f32⟩
  | .hbm, ⟨87, _⟩ => ⟨S30720x32, .f32⟩
  | .hbm, ⟨88, _⟩ => ⟨S30720x32, .i1⟩
  | .hbm, ⟨89, _⟩ => ⟨S_, .f32⟩
  | .hbm, ⟨90, _⟩ => ⟨S30720x32, .f32⟩
  | .hbm, ⟨91, _⟩ => ⟨S_, .f32⟩
  | .hbm, ⟨92, _⟩ => ⟨S30720x32, .f32⟩
  | .hbm, ⟨93, _⟩ => ⟨S30720x32, .f32⟩
  | .hbm, ⟨94, _⟩ => ⟨S32x30720, .f32⟩
  | .hbm, ⟨95, _⟩ => ⟨S60x4x1x128, .f32⟩
  | .hbm, ⟨96, _⟩ => ⟨S60x4x1x128, .f32⟩
  | .local _ .vmem, ⟨0, _⟩ => ⟨S240x128x4096, .f32⟩
  | .local _ .vmem, ⟨1, _⟩ => ⟨S240x4096, .f32⟩
  | .local _ .vmem, ⟨2, _⟩ => ⟨S240x128x4096, .fp8e4m3⟩
  | _, _ => ⟨S30x1024x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_8 : Ref sig .tc := ⟨.hbm, 51, rfl⟩
abbrev main_v39 : Ref sig .tc := ⟨.hbm, 52, rfl⟩
abbrev main_v40 : Ref sig .tc := ⟨.hbm, 53, rfl⟩
abbrev main_cst_9 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_cst_11 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_12 : Ref sig .tc := ⟨.hbm, 68, rfl⟩
abbrev main_v52 : Ref sig .tc := ⟨.hbm, 69, rfl⟩
abbrev main_v53 : Ref sig .tc := ⟨.hbm, 70, rfl⟩
abbrev main_cst_13 : Ref sig .tc := ⟨.hbm, 71, rfl⟩
abbrev main_v54 : Ref sig .tc := ⟨.hbm, 72, rfl⟩
abbrev main_v55 : Ref sig .tc := ⟨.hbm, 73, rfl⟩
abbrev main_cst_14 : Ref sig .tc := ⟨.hbm, 74, rfl⟩
abbrev main_v56 : Ref sig .tc := ⟨.hbm, 75, rfl⟩
abbrev main_v57 : Ref sig .tc := ⟨.hbm, 76, rfl⟩
abbrev main_cst_15 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_16 : Ref sig .tc := ⟨.hbm, 83, rfl⟩
abbrev main_v63 : Ref sig .tc := ⟨.hbm, 84, rfl⟩
abbrev main_v64 : Ref sig .tc := ⟨.hbm, 85, rfl⟩
abbrev main_cst_17 : Ref sig .tc := ⟨.hbm, 86, rfl⟩
abbrev main_v65 : Ref sig .tc := ⟨.hbm, 87, rfl⟩
abbrev main_v66 : Ref sig .tc := ⟨.hbm, 88, rfl⟩
abbrev main_cst_18 : Ref sig .tc := ⟨.hbm, 89, rfl⟩
abbrev main_v67 : Ref sig .tc := ⟨.hbm, 90, rfl⟩
abbrev main_cst_19 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S240x128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S240x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S240x128x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Frame.Trip.lean ====
/- One trip of the kernel's token loop, and the loop's invariant: every buffer the trip writes is held at some contents. -/
module

public import proofs.«01_k».proof.Proof.Gen.Kernel.Skeleton
public import proofs.«01_k».proof.Proof.Gen.Kernel.Loops
public import Idealize.ShloMosaic.Lib.Tactic

@[expose] public section

set_option warn.classDefReducibility false

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none

local notation "𝕄" => MT nD τ sig Unit (Elt F) ℕ (UR sig nD τ) ℕ

/-- A memref held at contents `f`. -/
abbrev held (c : Dev nD) {s : Shape} {e : EltTy} (m : Memref sig .tc .vmem s e) (f : BufTy.Contents (Elt F) m.view.ty) : sProp 𝕄 :=
  m.view.loc (c : Thread nD τ) ↦[m.view.set]{fullShare} f

/-- A memref held at some contents. -/
abbrev some' (c : Dev nD) {s : Shape} {e : EltTy} (m : Memref sig .tc .vmem s e) : sProp 𝕄 :=
  iprop(∃ f : BufTy.Contents (Elt F) m.view.ty, held c m f)

/-- What a trip touches: the block of rows, the gain and the shift at their contents, everything the trips write at some contents. -/
abbrev Res (c : Dev nD) (arg1 : Memref sig .tc .vmem S512x4096 .bf16) (arg2 : Memref sig .tc .vmem S1x4096 .f32) (arg3 : Memref sig .tc .vmem S1x4096 .f32) (arg4 : Memref sig .tc .vmem S512x4096 .fp8e4m3) (arg5 : Memref sig .tc .vmem S32x512 .f32) (arg6 : Memref sig .tc .vmem S4096x512 .fp8e4m3) (arg7 : Memref sig .tc .vmem S1x4x1x4096 .f32) (arg8 : Memref sig .tc .vmem S1x4x1x128 .f32) (arg9 : Memref sig .tc .vmem S1x4x1x128 .f32) (arg10 : Memref sig .tc .vmem S128x4096 .f32) (arg11 : Memref sig .tc .vmem S128x128 .f32) (arg12 : Memref sig .tc .vmem S128x128 .f32) (arg13 : Memref sig .tc .vmem S128x4096 .bf16)
    (f1 : BufTy.Contents (Elt F) arg1.view.ty) (f2 : BufTy.Contents (Elt F) arg2.view.ty) (f3 : BufTy.Contents (Elt F) arg3.view.ty) : sProp 𝕄 :=
  iprop(held c arg1 f1 ∗ held c arg2 f2 ∗ held c arg3 f3 ∗ some' c arg4 ∗ some' c arg5 ∗ some' c arg6 ∗ some' c arg7 ∗ some' c arg8 ∗ some' c arg9
      ∗ some' c arg10 ∗ some' c arg11 ∗ some' c arg12 ∗ some' c arg13)

theorem trip (c : Dev nD) (i : grid0.Coords) (arg1 : Memref sig .tc .vmem S512x4096 .bf16) (harg1 : arg1.IsWhole) (arg2 : Memref sig .tc .vmem S1x4096 .f32) (harg2 : arg2.IsWhole) (arg3 : Memref sig .tc .vmem S1x4096 .f32) (harg3 : arg3.IsWhole) (arg4 : Memref sig .tc .vmem S512x4096 .fp8e4m3) (harg4 : arg4.IsWhole) (arg5 : Memref sig .tc .vmem S32x512 .f32) (harg5 : arg5.IsWhole) (arg6 : Memref sig .tc .vmem S4096x512 .fp8e4m3) (harg6 : arg6.IsWhole) (arg7 : Memref sig .tc .vmem S1x4x1x4096 .f32) (harg7 : arg7.IsWhole) (arg8 : Memref sig .tc .vmem S1x4x1x128 .f32) (harg8 : arg8.IsWhole) (arg9 : Memref sig .tc .vmem S1x4x1x128 .f32) (harg9 : arg9.IsWhole) (arg10 : Memref sig .tc .vmem S128x4096 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x4096 .bf16) (harg13 : arg13.IsWhole)  (v3 v4 : IVec S128x128 32) (k : Fin k0_t1_loop.trips) (acc : Unit)
    (f1 : BufTy.Contents (Elt F) arg1.view.ty) (f2 : BufTy.Contents (Elt F) arg2.view.ty) (f3 : BufTy.Contents (Elt F) arg3.view.ty) :
    Res c arg1 arg2 arg3 arg4 arg5 arg6 arg7 arg8 arg9 arg10 arg11 arg12 arg13 f1 f2 f3
    ⊢ wp frame (wpE (defs₀ (F := F)) 𝒱₀ (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13  v3 v4 k acc)
      (fun _ => Res c arg1 arg2 arg3 arg4 arg5 arg6 arg7 arg8 arg9 arg10 arg11 arg12 arg13 f1 f2 f3) := by
  unfold k0_t1_body
  iintro ⟨H1, H2, H3, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩⟩
  sl_exec
  sl_step
  sl_close

attribute [local irreducible] k0_t1_body in
/-- The loop's invariant: the block of rows, the gain and the shift at their contents, everything the trips write at some contents. -/

@[sl_loop] noncomputable def loopInv_k0_t1 (c : Dev nD) (i : grid0.Coords) (arg1 : Memref sig .tc .vmem S512x4096 .bf16) (harg1 : arg1.IsWhole) (arg2 : Memref sig .tc .vmem S1x4096 .f32) (harg2 : arg2.IsWhole) (arg3 : Memref sig .tc .vmem S1x4096 .f32) (harg3 : arg3.IsWhole) (arg4 : Memref sig .tc .vmem S512x4096 .fp8e4m3) (harg4 : arg4.IsWhole) (arg5 : Memref sig .tc .vmem S32x512 .f32) (harg5 : arg5.IsWhole) (arg6 : Memref sig .tc .vmem S4096x512 .fp8e4m3) (harg6 : arg6.IsWhole) (arg7 : Memref sig .tc .vmem S1x4x1x4096 .f32) (harg7 : arg7.IsWhole) (arg8 : Memref sig .tc .vmem S1x4x1x128 .f32) (harg8 : arg8.IsWhole) (arg9 : Memref sig .tc .vmem S1x4x1x128 .f32) (harg9 : arg9.IsWhole) (arg10 : Memref sig .tc .vmem S128x4096 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x4096 .bf16) (harg13 : arg13.IsWhole) (v3 v4 : IVec S128x128 32)
    (f1 : BufTy.Contents (Elt F) arg1.view.ty) (f2 : BufTy.Contents (Elt F) arg2.view.ty) (f3 : BufTy.Contents (Elt F) arg3.view.ty) :
    LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 v3 v4 where
  inv := fun _ _ => Res c arg1 arg2 arg3 arg4 arg5 arg6 arg7 arg8 arg9 arg10 arg11 arg12 arg13 f1 f2 f3
  step := fun k acc => trip c i arg1 harg1 arg2 harg2 arg3 harg3 arg4 harg4 arg5 harg5 arg6 harg6 arg7 harg7 arg8 harg8 arg9 harg9 arg10 harg10 arg11 harg11 arg12 harg12 arg13 harg13 v3 v4 k acc f1 f2 f3

/-- The kernel body from any contents of the buffers it writes: it ends, the three operands unchanged. -/
theorem kernelRun (c : Dev nD) (i : grid0.Coords) (arg1 : Memref sig .tc .vmem S512x4096 .bf16) (harg1 : arg1.IsWhole) (arg2 : Memref sig .tc .vmem S1x4096 .f32) (harg2 : arg2.IsWhole) (arg3 : Memref sig .tc .vmem S1x4096 .f32) (harg3 : arg3.IsWhole) (arg4 : Memref sig .tc .vmem S512x4096 .fp8e4m3) (harg4 : arg4.IsWhole) (arg5 : Memref sig .tc .vmem S32x512 .f32) (harg5 : arg5.IsWhole) (arg6 : Memref sig .tc .vmem S4096x512 .fp8e4m3) (harg6 : arg6.IsWhole) (arg7 : Memref sig .tc .vmem S1x4x1x4096 .f32) (harg7 : arg7.IsWhole) (arg8 : Memref sig .tc .vmem S1x4x1x128 .f32) (harg8 : arg8.IsWhole) (arg9 : Memref sig .tc .vmem S1x4x1x128 .f32) (harg9 : arg9.IsWhole) (arg10 : Memref sig .tc .vmem S128x4096 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x4096 .bf16) (harg13 : arg13.IsWhole)
    (f1 : BufTy.Contents (Elt F) arg1.view.ty) (f2 : BufTy.Contents (Elt F) arg2.view.ty) (f3 : BufTy.Contents (Elt F) arg3.view.ty) :
    Res c arg1 arg2 arg3 arg4 arg5 arg6 arg7 arg8 arg9 arg10 arg11 arg12 arg13 f1 f2 f3
    ⊢ wp frame (wpE (defs₀ (F := F)) 𝒱₀ (c : Thread nD τ) none) Set.univ (cc0_layernorm_fp8 (F := F) i arg1 harg1 arg2 harg2 arg3 harg3 arg4 harg4 arg5 harg5 arg6 harg6 arg7 harg7 arg8 harg8 arg9 harg9 arg10 harg10 arg11 harg11 arg12 harg12 arg13 harg13)
      (fun _ => Res c arg1 arg2 arg3 arg4 arg5 arg6 arg7 arg8 arg9 arg10 arg11 arg12 arg13 f1 f2 f3) := by
  simp only [cc0_layernorm_fp8_eq_skeleton]; unfold cc0_layernorm_fp8_skel
  iintro ⟨H1, H2, H3, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩⟩
  by_cases h : Scalar.cmpi .ne (Scalar.extui (Scalar.cmpi .eq (BitVec.ofNat 32 (i 0).val) 0#32) : BitVec 32) 0#32 = 1#1
  · sl_exec
    sl_step
    sl_close
  · sl_exec
    sl_step
    sl_close

end Cert.Proof.Kernel

end
-- ==== Proof.Frame.Run.lean ====
/- The kernel's frame: every grid point's body runs from any contents of the buffers it writes, so the launch ends with
   the argument arrays unchanged and every semaphore at zero. No output is named here. -/
module

public import proofs.«01_k».proof.Proof.Frame.Trip
public import proofs.«01_k».proof.Proof.Gen.Kernel.Launch
public import proofs.«01_k».proof.Proof.Gen.Kernel.Points
public import proofs.«01_k».proof.Proof.Gen.Kernel.Frame

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents are not named: the six outputs. -/
def fgt : Fin 9 → Bool := fun w => decide (3 ≤ w.val)

/-- The proof data: the arrays as the region finds them, the inputs' buffers left at their blocks, the outputs' unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨n + 3, h⟩ => Dat.unnamed (cfg := cfg0) ⟨n + 3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem defs₀_row (t : Fin cfg0.N) :
    defs₀ (F := F) .tc cfg0.body (cfg0.bodyArgs t (cfg0.slots t)) = bodyAt0 t := by
  unfold defs₀; rw [Defs.onTc_tc]

/-- What a point's body is called with, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X) ∗ (∃ X, owns (c : Thread nD τ) (st0_4 t) fullShare X)
    ∗ (∃ X, owns (c : Thread nD τ) (st0_5 t) fullShare X) ∗ (∃ X, owns (c : Thread nD τ) (st0_6 t) fullShare X)
    ∗ (∃ X, owns (c : Thread nD τ) (st0_7 t) fullShare X) ∗ (∃ X, owns (c : Thread nD τ) (st0_8 t) fullShare X))
/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ (∃ X, owns (c : Thread nD τ) (st0_3 t) fullShare X) ∗ (∃ X, owns (c : Thread nD τ) (st0_4 t) fullShare X)
    ∗ (∃ X, owns (c : Thread nD τ) (st0_5 t) fullShare X) ∗ (∃ X, owns (c : Thread nD τ) (st0_6 t) fullShare X)
    ∗ (∃ X, owns (c : Thread nD τ) (st0_7 t) fullShare X) ∗ (∃ X, owns (c : Thread nD τ) (st0_8 t) fullShare X))

theorem some'_of_owns (c : Dev nD) {s : Shape} {e : EltTy} (M : Memref sig .tc .vmem s e) :
    iprop(∃ X, owns (c : Thread nD τ) M fullShare X) ⊢ (some' c M : sProp 𝕄) := by
  unfold owns; iintro ⟨%X, %f, -, H⟩; iexists f; iexact H
theorem owns_of_some' (c : Dev nD) {s : Shape} {e : EltTy} (M : Memref sig .tc .vmem s e) :
    (some' c M : sProp 𝕄) ⊢ iprop(∃ X, owns (c : Thread nD τ) M fullShare X) := by
  unfold owns; iintro ⟨%f, H⟩; iexists _, f; isplitr
  · ipureintro; rfl
  iexact H

/-- A whole scratch buffer at some contents, as the launch states it and as the body names it. -/
theorem some'_of_whole (c : Dev nD) (b : Ref sig .tc) :
    iprop(∃ f : Buf (Elt F) ((c : Thread nD τ).loc b), ((c : Thread nD τ).loc b) ↦{fullShare} f)
      ⊢ (iprop(∃ f, (Memref.whole b).view.loc (c : Thread nD τ) ↦[(Memref.whole b).view.set]{fullShare} f) : sProp 𝕄) := by
  rw [Memref.view_whole, View.set_whole]
theorem whole_of_some' (c : Dev nD) (b : Ref sig .tc) :
    (iprop(∃ f, (Memref.whole b).view.loc (c : Thread nD τ) ↦[(Memref.whole b).view.set]{fullShare} f) : sProp 𝕄)
      ⊢ iprop(∃ f : Buf (Elt F) ((c : Thread nD τ).loc b), ((c : Thread nD τ).loc b) ↦{fullShare} f) := by
  rw [Memref.view_whole, View.set_whole]

theorem sound_body (c : Dev nD) (t : Fin cfg0.N) :
    bodyPre m c t ⊢ wp frame (wpE (defs₀ (F := F)) Variants.none c none) Set.univ (bodyAt0 t) (fun _ => bodyPost m c t) := by
  unfold bodyPre bodyPost
  have h0 := before0_0_of m (dats m 0 c) (A_eq m c 0) (fun t => rfl) t
  have h1 := before0_1_of m (dats m 0 c) (A_eq m c 1) (fun t => rfl) t
  have h2 := before0_2_of m (dats m 0 c) (A_eq m c 2) (fun t => rfl) t
  simp only [h0, h1, h2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  iintro ⟨⟨⟨HS0, HS1, HS2, HS3⟩, Hg⟩, Ho, ⟨%d0, H0⟩, ⟨%d1, H1⟩, ⟨%d2, H2⟩, H3, H4, H5, H6, H7, H8⟩
  ihave H3 := some'_of_owns c _ $$ H3
  ihave H4 := some'_of_owns c _ $$ H4
  ihave H5 := some'_of_owns c _ $$ H5
  ihave H6 := some'_of_owns c _ $$ H6
  ihave H7 := some'_of_owns c _ $$ H7
  ihave H8 := some'_of_owns c _ $$ H8
  unfold owns
  icases H0 with ⟨%f1, %e1, H0⟩
  icases H1 with ⟨%f2, %e2, H1⟩
  icases H2 with ⟨%f3, %e3, H2⟩
  iapply (wp_wand_r frame (wpE (defs₀ (F := F)) 𝒱₀ (c : Thread nD τ) none) Set.univ)
  isplitl [H0 H1 H2 H3 H4 H5 H6 H7 H8 HS0 HS1 HS2 HS3]
  · iapply (kernelRun c (grid0.coords t) (st0_0 t) _ (st0_1 t) _ (st0_2 t) _ (st0_3 t) _ (st0_4 t) _ (st0_5 t) _ (st0_6 t) _ (st0_7 t) _ (st0_8 t) _
      (Memref.whole cc0_scratch0) _ (Memref.whole cc0_scratch1) _ (Memref.whole cc0_scratch2) _ (Memref.whole cc0_scratch3) _ f1 f2 f3)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iapply (some'_of_whole c cc0_scratch0); iexact HS0
    isplitl [HS1]; · iapply (some'_of_whole c cc0_scratch1); iexact HS1
    isplitl [HS2]; · iapply (some'_of_whole c cc0_scratch2); iexact HS2
    iapply (some'_of_whole c cc0_scratch3); iexact HS3
  iintro %u ⟨H0, H1, H2, H3, H4, H5, H6, H7, H8, HS0, HS1, HS2, HS3⟩
  isplitl [HS0 HS1 HS2 HS3 Hg]
  · isplitl [HS0 HS1 HS2 HS3]
    · isplitl [HS0]; · iapply (whole_of_some' c cc0_scratch0); iexact HS0
      isplitl [HS1]; · iapply (whole_of_some' c cc0_scratch1); iexact HS1
      isplitl [HS2]; · iapply (whole_of_some' c cc0_scratch2); iexact HS2
      iapply (whole_of_some' c cc0_scratch3); iexact HS3
    iexact Hg
  isplitl [Ho]; · iexact Ho
  isplitl [H0]
  · iexists f1; isplitr
    · ipureintro; exact e1
    iexact H0
  isplitl [H1]
  · iexists f2; isplitr
    · ipureintro; exact e2
    iexact H1
  isplitl [H2]
  · iexists f3; isplitr
    · ipureintro; exact e3
    iexact H2
  isplitl [H3]; · iapply (owns_of_some' c (st0_3 t)); iexact H3
  isplitl [H4]; · iapply (owns_of_some' c (st0_4 t)); iexact H4
  isplitl [H5]; · iapply (owns_of_some' c (st0_5 t)); iexact H5
  isplitl [H6]; · iapply (owns_of_some' c (st0_6 t)); iexact H6
  isplitl [H7]; · iapply (owns_of_some' c (st0_7 t)); iexact H7
  iapply (owns_of_some' c (st0_8 t)); iexact H8

theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m)
    (hmain := hmain m Variants.none) (hA := A_eq m) (hΦ := fun _ _ => rfl) (hQ' := fun _ h => h)

/-- The frame: the launch ends, the argument arrays unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)
    (run_main m ρ)

end Cert.Proof.Kernel

end
-- ==== Proof.FrameIdeal.Trip.lean ====
/- One trip of the kernel's token loop, and the loop's invariant: every buffer the trip writes is held at some contents. -/
module

public import proofs.«01_k».proof.Proof.Gen.KernelIdeal.Skeleton
public import proofs.«01_k».proof.Proof.Gen.KernelIdeal.Loops
public import Idealize.ShloMosaic.Lib.Tactic

@[expose] public section

set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none

local notation "𝕄" => MT nD τ sig Unit (Elt F) ℕ (UR sig nD τ) ℕ

/-- A memref held at contents `f`. -/
abbrev held (c : Dev nD) {s : Shape} {e : EltTy} (m : Memref sig .tc .vmem s e) (f : BufTy.Contents (Elt F) m.view.ty) : sProp 𝕄 :=
  m.view.loc (c : Thread nD τ) ↦[m.view.set]{fullShare} f

/-- A memref held at some contents. -/
abbrev some' (c : Dev nD) {s : Shape} {e : EltTy} (m : Memref sig .tc .vmem s e) : sProp 𝕄 :=
  iprop(∃ f : BufTy.Contents (Elt F) m.view.ty, held c m f)

/-- What a trip touches: the block of rows, the gain and the shift at their contents, everything the trips write at some contents. -/
abbrev Res (c : Dev nD) (arg1 : Memref sig .tc .vmem S512x4096 .bf16) (arg2 : Memref sig .tc .vmem S1x4096 .f32) (arg3 : Memref sig .tc .vmem S1x4096 .f32) (arg4 : Memref sig .tc .vmem S512x4096 .fp8e4m3) (arg5 : Memref sig .tc .vmem S32x512 .f32) (arg6 : Memref sig .tc .vmem S4096x512 .fp8e4m3) (arg7 : Memref sig .tc .vmem S1x4x1x4096 .f32) (arg8 : Memref sig .tc .vmem S1x4x1x128 .f32) (arg9 : Memref sig .tc .vmem S1x4x1x128 .f32) (arg10 : Memref sig .tc .vmem S128x4096 .f32) (arg11 : Memref sig .tc .vmem S128x128 .f32) (arg12 : Memref sig .tc .vmem S128x128 .f32) (arg13 : Memref sig .tc .vmem S128x4096 .bf16)
    (f1 : BufTy.Contents (Elt F) arg1.view.ty) (f2 : BufTy.Contents (Elt F) arg2.view.ty) (f3 : BufTy.Contents (Elt F) arg3.view.ty) : sProp 𝕄 :=
  iprop(held c arg1 f1 ∗ held c arg2 f2 ∗ held c arg3 f3 ∗ some' c arg4 ∗ some' c arg5 ∗ some' c arg6 ∗ some' c arg7 ∗ some' c arg8 ∗ some' c arg9
      ∗ some' c arg10 ∗ some' c arg11 ∗ some' c arg12 ∗ some' c arg13)

theorem trip (c : Dev nD) (i : grid0.Coords) (arg1 : Memref sig .tc .vmem S512x4096 .bf16) (harg1 : arg1.IsWhole) (arg2 : Memref sig .tc .vmem S1x4096 .f32) (harg2 : arg2.IsWhole) (arg3 : Memref sig .tc .vmem S1x4096 .f32) (harg3 : arg3.IsWhole) (arg4 : Memref sig .tc .vmem S512x4096 .fp8e4m3) (harg4 : arg4.IsWhole) (arg5 : Memref sig .tc .vmem S32x512 .f32) (harg5 : arg5.IsWhole) (arg6 : Memref sig .tc .vmem S4096x512 .fp8e4m3) (harg6 : arg6.IsWhole) (arg7 : Memref sig .tc .vmem S1x4x1x4096 .f32) (harg7 : arg7.IsWhole) (arg8 : Memref sig .tc .vmem S1x4x1x128 .f32) (harg8 : arg8.IsWhole) (arg9 : Memref sig .tc .vmem S1x4x1x128 .f32) (harg9 : arg9.IsWhole) (arg10 : Memref sig .tc .vmem S128x4096 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x4096 .bf16) (harg13 : arg13.IsWhole)  (v3 v4 : IVec S128x128 32) (k : Fin k0_t1_loop.trips) (acc : Unit)
    (f1 : BufTy.Contents (Elt F) arg1.view.ty) (f2 : BufTy.Contents (Elt F) arg2.view.ty) (f3 : BufTy.Contents (Elt F) arg3.view.ty) :
    Res c arg1 arg2 arg3 arg4 arg5 arg6 arg7 arg8 arg9 arg10 arg11 arg12 arg13 f1 f2 f3
    ⊢ wp frame (wpE (defs₀ (F := F)) 𝒱₀ (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13  v3 v4 k acc)
      (fun _ => Res c arg1 arg2 arg3 arg4 arg5 arg6 arg7 arg8 arg9 arg10 arg11 arg12 arg13 f1 f2 f3) := by
  unfold k0_t1_body
  iintro ⟨H1, H2, H3, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩⟩
  sl_exec
  sl_step
  sl_close

attribute [local irreducible] k0_t1_body in
/-- The loop's invariant: the block of rows, the gain and the shift at their contents, everything the trips write at some contents. -/

@[sl_loop] noncomputable def loopInv_k0_t1 (c : Dev nD) (i : grid0.Coords) (arg1 : Memref sig .tc .vmem S512x4096 .bf16) (harg1 : arg1.IsWhole) (arg2 : Memref sig .tc .vmem S1x4096 .f32) (harg2 : arg2.IsWhole) (arg3 : Memref sig .tc .vmem S1x4096 .f32) (harg3 : arg3.IsWhole) (arg4 : Memref sig .tc .vmem S512x4096 .fp8e4m3) (harg4 : arg4.IsWhole) (arg5 : Memref sig .tc .vmem S32x512 .f32) (harg5 : arg5.IsWhole) (arg6 : Memref sig .tc .vmem S4096x512 .fp8e4m3) (harg6 : arg6.IsWhole) (arg7 : Memref sig .tc .vmem S1x4x1x4096 .f32) (harg7 : arg7.IsWhole) (arg8 : Memref sig .tc .vmem S1x4x1x128 .f32) (harg8 : arg8.IsWhole) (arg9 : Memref sig .tc .vmem S1x4x1x128 .f32) (harg9 : arg9.IsWhole) (arg10 : Memref sig .tc .vmem S128x4096 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x4096 .bf16) (harg13 : arg13.IsWhole) (v3 v4 : IVec S128x128 32)
    (f1 : BufTy.Contents (Elt F) arg1.view.ty) (f2 : BufTy.Contents (Elt F) arg2.view.ty) (f3 : BufTy.Contents (Elt F) arg3.view.ty) :
    LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 v3 v4 where
  inv := fun _ _ => Res c arg1 arg2 arg3 arg4 arg5 arg6 arg7 arg8 arg9 arg10 arg11 arg12 arg13 f1 f2 f3
  step := fun k acc => trip c i arg1 harg1 arg2 harg2 arg3 harg3 arg4 harg4 arg5 harg5 arg6 harg6 arg7 harg7 arg8 harg8 arg9 harg9 arg10 harg10 arg11 harg11 arg12 harg12 arg13 harg13 v3 v4 k acc f1 f2 f3

/-- The kernel body from any contents of the buffers it writes: it ends, the three operands unchanged. -/
theorem kernelRun (c : Dev nD) (i : grid0.Coords) (arg1 : Memref sig .tc .vmem S512x4096 .bf16) (harg1 : arg1.IsWhole) (arg2 : Memref sig .tc .vmem S1x4096 .f32) (harg2 : arg2.IsWhole) (arg3 : Memref sig .tc .vmem S1x4096 .f32) (harg3 : arg3.IsWhole) (arg4 : Memref sig .tc .vmem S512x4096 .fp8e4m3) (harg4 : arg4.IsWhole) (arg5 : Memref sig .tc .vmem S32x512 .f32) (harg5 : arg5.IsWhole) (arg6 : Memref sig .tc .vmem S4096x512 .fp8e4m3) (harg6 : arg6.IsWhole) (arg7 : Memref sig .tc .vmem S1x4x1x4096 .f32) (harg7 : arg7.IsWhole) (arg8 : Memref sig .tc .vmem S1x4x1x128 .f32) (harg8 : arg8.IsWhole) (arg9 : Memref sig .tc .vmem S1x4x1x128 .f32) (harg9 : arg9.IsWhole) (arg10 : Memref sig .tc .vmem S128x4096 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x4096 .bf16) (harg13 : arg13.IsWhole)
    (f1 : BufTy.Contents (Elt F) arg1.view.ty) (f2 : BufTy.Contents (Elt F) arg2.view.ty) (f3 : BufTy.Contents (Elt F) arg3.view.ty) :
    Res c arg1 arg2 arg3 arg4 arg5 arg6 arg7 arg8 arg9 arg10 arg11 arg12 arg13 f1 f2 f3
    ⊢ wp frame (wpE (defs₀ (F := F)) 𝒱₀ (c : Thread nD τ) none) Set.univ (cc0_layernorm_fp8 (F := F) i arg1 harg1 arg2 harg2 arg3 harg3 arg4 harg4 arg5 harg5 arg6 harg6 arg7 harg7 arg8 harg8 arg9 harg9 arg10 harg10 arg11 harg11 arg12 harg12 arg13 harg13)
      (fun _ => Res c arg1 arg2 arg3 arg4 arg5 arg6 arg7 arg8 arg9 arg10 arg11 arg12 arg13 f1 f2 f3) := by
  simp only [cc0_layernorm_fp8_eq_skeleton]; unfold cc0_layernorm_fp8_skel
  iintro ⟨H1, H2, H3, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩⟩
  by_cases h : Scalar.cmpi .ne (Scalar.extui (Scalar.cmpi .eq (BitVec.ofNat 32 (i 0).val) 0#32) : BitVec 32) 0#32 = 1#1
  · sl_exec
    sl_step
    sl_close
  · sl_exec
    sl_step
    sl_close

end Cert.Proof.KernelIdeal

end
-- ==== Proof.FrameIdeal.Run.lean ====
/- The kernel's frame: every grid point's body runs from any contents of the buffers it writes, so the launch ends with
   the argument arrays unchanged and every semaphore at zero. No output is named here. -/
module

public import proofs.«01_k».proof.Proof.FrameIdeal.Trip
public import proofs.«01_k».proof.Proof.Gen.KernelIdeal.Launch
public import proofs.«01_k».proof.Proof.Gen.KernelIdeal.Points
public import proofs.«01_k».proof.Proof.Gen.KernelIdeal.Frame

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents are not named: the six outputs. -/
def fgt : Fin 9 → Bool := fun w => decide (3 ≤ w.val)

/-- The proof data: the arrays as the region finds them, the inputs' buffers left at their blocks, the outputs' unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨n + 3, h⟩ => Dat.unnamed (cfg := cfg0) ⟨n + 3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem defs₀_row (t : Fin cfg0.N) :
    defs₀ (F := F) .tc cfg0.body (cfg0.bodyArgs t (cfg0.slots t)) = bodyAt0 t := by
  unfold defs₀; rw [Defs.onTc_tc]

/-- What a point's body is called with, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X) ∗ (∃ X, owns (c : Thread nD τ) (st0_4 t) fullShare X)
    ∗ (∃ X, owns (c : Thread nD τ) (st0_5 t) fullShare X) ∗ (∃ X, owns (c : Thread nD τ) (st0_6 t) fullShare X)
    ∗ (∃ X, owns (c : Thread nD τ) (st0_7 t) fullShare X) ∗ (∃ X, owns (c : Thread nD τ) (st0_8 t) fullShare X))
/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ (∃ X, owns (c : Thread nD τ) (st0_3 t) fullShare X) ∗ (∃ X, owns (c : Thread nD τ) (st0_4 t) fullShare X)
    ∗ (∃ X, owns (c : Thread nD τ) (st0_5 t) fullShare X) ∗ (∃ X, owns (c : Thread nD τ) (st0_6 t) fullShare X)
    ∗ (∃ X, owns (c : Thread nD τ) (st0_7 t) fullShare X) ∗ (∃ X, owns (c : Thread nD τ) (st0_8 t) fullShare X))

theorem some'_of_owns (c : Dev nD) {s : Shape} {e : EltTy} (M : Memref sig .tc .vmem s e) :
    iprop(∃ X, owns (c : Thread nD τ) M fullShare X) ⊢ (some' c M : sProp 𝕄) := by
  unfold owns; iintro ⟨%X, %f, -, H⟩; iexists f; iexact H
theorem owns_of_some' (c : Dev nD) {s : Shape} {e : EltTy} (M : Memref sig .tc .vmem s e) :
    (some' c M : sProp 𝕄) ⊢ iprop(∃ X, owns (c : Thread nD τ) M fullShare X) := by
  unfold owns; iintro ⟨%f, H⟩; iexists _, f; isplitr
  · ipureintro; rfl
  iexact H

/-- A whole scratch buffer at some contents, as the launch states it and as the body names it. -/
theorem some'_of_whole (c : Dev nD) (b : Ref sig .tc) :
    iprop(∃ f : Buf (Elt F) ((c : Thread nD τ).loc b), ((c : Thread nD τ).loc b) ↦{fullShare} f)
      ⊢ (iprop(∃ f, (Memref.whole b).view.loc (c : Thread nD τ) ↦[(Memref.whole b).view.set]{fullShare} f) : sProp 𝕄) := by
  rw [Memref.view_whole, View.set_whole]
theorem whole_of_some' (c : Dev nD) (b : Ref sig .tc) :
    (iprop(∃ f, (Memref.whole b).view.loc (c : Thread nD τ) ↦[(Memref.whole b).view.set]{fullShare} f) : sProp 𝕄)
      ⊢ iprop(∃ f : Buf (Elt F) ((c : Thread nD τ).loc b), ((c : Thread nD τ).loc b) ↦{fullShare} f) := by
  rw [Memref.view_whole, View.set_whole]

theorem sound_body (c : Dev nD) (t : Fin cfg0.N) :
    bodyPre m c t ⊢ wp frame (wpE (defs₀ (F := F)) Variants.none c none) Set.univ (bodyAt0 t) (fun _ => bodyPost m c t) := by
  unfold bodyPre bodyPost
  have h0 := before0_0_of m (dats m 0 c) (A_eq m c 0) (fun t => rfl) t
  have h1 := before0_1_of m (dats m 0 c) (A_eq m c 1) (fun t => rfl) t
  have h2 := before0_2_of m (dats m 0 c) (A_eq m c 2) (fun t => rfl) t
  simp only [h0, h1, h2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  iintro ⟨⟨⟨HS0, HS1, HS2, HS3⟩, Hg⟩, Ho, ⟨%d0, H0⟩, ⟨%d1, H1⟩, ⟨%d2, H2⟩, H3, H4, H5, H6, H7, H8⟩
  ihave H3 := some'_of_owns c _ $$ H3
  ihave H4 := some'_of_owns c _ $$ H4
  ihave H5 := some'_of_owns c _ $$ H5
  ihave H6 := some'_of_owns c _ $$ H6
  ihave H7 := some'_of_owns c _ $$ H7
  ihave H8 := some'_of_owns c _ $$ H8
  unfold owns
  icases H0 with ⟨%f1, %e1, H0⟩
  icases H1 with ⟨%f2, %e2, H1⟩
  icases H2 with ⟨%f3, %e3, H2⟩
  iapply (wp_wand_r frame (wpE (defs₀ (F := F)) 𝒱₀ (c : Thread nD τ) none) Set.univ)
  isplitl [H0 H1 H2 H3 H4 H5 H6 H7 H8 HS0 HS1 HS2 HS3]
  · iapply (kernelRun c (grid0.coords t) (st0_0 t) _ (st0_1 t) _ (st0_2 t) _ (st0_3 t) _ (st0_4 t) _ (st0_5 t) _ (st0_6 t) _ (st0_7 t) _ (st0_8 t) _
      (Memref.whole cc0_scratch0) _ (Memref.whole cc0_scratch1) _ (Memref.whole cc0_scratch2) _ (Memref.whole cc0_scratch3) _ f1 f2 f3)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iapply (some'_of_whole c cc0_scratch0); iexact HS0
    isplitl [HS1]; · iapply (some'_of_whole c cc0_scratch1); iexact HS1
    isplitl [HS2]; · iapply (some'_of_whole c cc0_scratch2); iexact HS2
    iapply (some'_of_whole c cc0_scratch3); iexact HS3
  iintro %u ⟨H0, H1, H2, H3, H4, H5, H6, H7, H8, HS0, HS1, HS2, HS3⟩
  isplitl [HS0 HS1 HS2 HS3 Hg]
  · isplitl [HS0 HS1 HS2 HS3]
    · isplitl [HS0]; · iapply (whole_of_some' c cc0_scratch0); iexact HS0
      isplitl [HS1]; · iapply (whole_of_some' c cc0_scratch1); iexact HS1
      isplitl [HS2]; · iapply (whole_of_some' c cc0_scratch2); iexact HS2
      iapply (whole_of_some' c cc0_scratch3); iexact HS3
    iexact Hg
  isplitl [Ho]; · iexact Ho
  isplitl [H0]
  · iexists f1; isplitr
    · ipureintro; exact e1
    iexact H0
  isplitl [H1]
  · iexists f2; isplitr
    · ipureintro; exact e2
    iexact H1
  isplitl [H2]
  · iexists f3; isplitr
    · ipureintro; exact e3
    iexact H2
  isplitl [H3]; · iapply (owns_of_some' c (st0_3 t)); iexact H3
  isplitl [H4]; · iapply (owns_of_some' c (st0_4 t)); iexact H4
  isplitl [H5]; · iapply (owns_of_some' c (st0_5 t)); iexact H5
  isplitl [H6]; · iapply (owns_of_some' c (st0_6 t)); iexact H6
  isplitl [H7]; · iapply (owns_of_some' c (st0_7 t)); iexact H7
  iapply (owns_of_some' c (st0_8 t)); iexact H8

theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePost (cfgs 0) (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m)
    (hmain := hmain m Variants.none) (hA := A_eq m) (hΦ := fun _ _ => rfl) (hQ' := fun _ h => h)

/-- The frame: the launch ends, the argument arrays unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)
    (run_main m ρ)

end Cert.Proof.KernelIdeal

end
-- ==== Proof.Value.RefPre.lean ====
/- The reference up to its kernel region, one operation at a time: each value and what it reads at an index. -/
module

public import proofs.«01_k».proof.Proof.Gen.ReferenceIdeal.Run
public import Idealize.ShloMosaic.Lib.Pipeline.Value
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v0 (x0 : (⟨S30x1024x4096, .bf16⟩ : BufTy).Contents (Elt F)) : (⟨S30720x4096, .bf16⟩ : BufTy).Contents (Elt F) :=
  shapeCast _ (x0) shapeCasts_S30x1024x4096_S30720x4096
set_option backward.proofsInPublic true in
abbrev idx_main_v0 (i : S30720x4096.Idx) : S30x1024x4096.Idx := fun a => match a with
  | ⟨0, _⟩ => ⟨((i 0).val * 4096 + (i 1).val) / 4194304, by have h0 : (i 0).val < 30720 := (i 0).isLt; have h1 : (i 1).val < 4096 := (i 1).isLt; show ((i 0).val * 4096 + (i 1).val) / 4194304 < 30; omega⟩
  | ⟨1, _⟩ => ⟨((i 0).val * 4096 + (i 1).val) / 4096 % 1024, by have h0 : (i 0).val < 30720 := (i 0).isLt; have h1 : (i 1).val < 4096 := (i 1).isLt; show ((i 0).val * 4096 + (i 1).val) / 4096 % 1024 < 1024; omega⟩
  | ⟨2, _⟩ => ⟨((i 0).val * 4096 + (i 1).val) % 4096, by have h0 : (i 0).val < 30720 := (i 0).isLt; have h1 : (i 1).val < 4096 := (i 1).isLt; show ((i 0).val * 4096 + (i 1).val) % 4096 < 4096; omega⟩
theorem val_main_v0_apply (x0 : (⟨S30x1024x4096, .bf16⟩ : BufTy).Contents (Elt F)) (i : S30720x4096.Idx) :
    val_main_v0 (F := F) x0 i = x0 (idx_main_v0 i) := by
  unfold val_main_v0
  exact shapeCast_apply x0 shapeCasts_S30x1024x4096_S30720x4096 i (idx_main_v0 i)
    (by rewrite [Shape.rowMajor_val_three, Shape.rowMajor_val_two]; have h0 : (i 0).val < 30720 := (i 0).isLt; have h1 : (i 1).val < 4096 := (i 1).isLt; show (((i 0).val * 4096 + (i 1).val) / 4194304 * 1024 + ((i 0).val * 4096 + (i 1).val) / 4096 % 1024) * 4096 + ((i 0).val * 4096 + (i 1).val) % 4096 = (i 0).val * 4096 + (i 1).val; omega)

def val_main_v1 (x0 : (⟨S30x1024x4096, .bf16⟩ : BufTy).Contents (Elt F)) : (⟨S30720x4096, .f32⟩ : BufTy).Contents (Elt F) :=
  extf .f32 (val_main_v0 (F := F) x0) bitsLt_bf16_f32
theorem val_main_v1_apply (x0 : (⟨S30x1024x4096, .bf16⟩ : BufTy).Contents (Elt F)) (i : S30720x4096.Idx) :
    val_main_v1 (F := F) x0 i = FloatOps.extf .f32 bitsLt_bf16_f32 (val_main_v0 (F := F) x0 i) := rfl

def val_main_cst : (⟨S_, .f32⟩ : BufTy).Contents (Elt F) :=
  constant S_ .f32 0x00000000#32
theorem val_main_cst_apply (i : S_.Idx) :
    val_main_cst (F := F) i = FloatOps.ofBits .f32 0x00000000#32 := rfl

def val_main_v2 (x0 : (⟨S30x1024x4096, .bf16⟩ : BufTy).Contents (Elt F)) : (⟨S30720, .f32⟩ : BufTy).Contents (Elt F) :=
  Host.reduceAdd (val_main_v1 (F := F) x0) (val_main_cst (F := F)) reducesTo_S30720x4096_S30720_d1 h_S_
abbrev idx_main_v2 (i : S30720.Idx) (k : Fin 4096) : S30720x4096.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v2_apply (x0 : (⟨S30x1024x4096, .bf16⟩ : BufTy).Contents (Elt Ideal)) (i : S30720.Idx) :
    val_main_v2 (F := Ideal) x0 i = (val_main_cst (F := Ideal)) (Shape.Idx.first h_S_) + ∑ k : Fin 4096, (val_main_v1 (F := Ideal) x0) (idx_main_v2 i k) := by
  unfold val_main_v2
  generalize val_main_v1 (F := Ideal) x0 = y0
  simp only [Host.reduceAdd, Ideal.hostReduceAdd_def]
  rw [Ideal.hostReduceAdd_single reducesTo_S30720x4096_S30720_d1 (by decide)]
  refine congrArg (_ + ·) (Finset.sum_congr rfl fun k _ => ?_)
  exact congrArg y0 (funext fun a => Fin.ext (by match a with | ⟨0, _⟩ => rfl | ⟨1, _⟩ => rfl))

def val_main_cst_0 : (⟨S_, .f32⟩ : BufTy).Contents (Elt F) :=
  constant S_ .f32 0x45800000#32
theorem val_main_cst_0_apply (i : S_.Idx) :
    val_main_cst_0 (F := F) i = FloatOps.ofBits .f32 0x45800000#32 := rfl

def val_main_v3 : (⟨S30720, .f32⟩ : BufTy).Contents (Elt F) :=
  broadcastInDim S30720 ![] bcast_S_S30720 (val_main_cst_0 (F := F))
abbrev idx_main_v3 (i : S30720.Idx) : S_.Idx := fun a => a.elim0
theorem val_main_v3_apply (i : S30720.Idx) :
    val_main_v3 (F := F) i = val_main_cst_0 (F := F) (idx_main_v3 i) := by
  unfold val_main_v3
  generalize val_main_cst_0 (F := F) = y
  exact broadcastInDim_apply _ bcast_S_S30720 y i (idx_main_v3 i) (fun a => a.elim0)

def val_main_v4 (x0 : (⟨S30x1024x4096, .bf16⟩ : BufTy).Contents (Elt F)) : (⟨S30720, .f32⟩ : BufTy).Contents (Elt F) :=
  Host.divf (val_main_v2 (F := F) x0) (val_main_v3 (F := F))
theorem val_main_v4_apply (x0 : (⟨S30x1024x4096, .bf16⟩ : BufTy).Contents (Elt F)) (i : S30720.Idx) :
    val_main_v4 (F := F) x0 i = FloatOps.hostDivf (val_main_v2 (F := F) x0 i) (val_main_v3 (F := F) i) := rfl

def val_main_v5 (x0 : (⟨S30x1024x4096, .bf16⟩ : BufTy).Contents (Elt F)) : (⟨S30720x1, .f32⟩ : BufTy).Contents (Elt F) :=
  broadcastInDim S30720x1 ![0] bcast_S30720_S30720x1_0 (val_main_v4 (F := F) x0)
abbrev idx_main_v5 (i : S30720x1.Idx) : S30720.Idx := fun a => match a with
  | ⟨0, _⟩ => ⟨(i 0).val, (i 0).isLt⟩
theorem val_main_v5_apply (x0 : (⟨S30x1024x4096, .bf16⟩ : BufTy).Contents (Elt F)) (i : S30720x1.Idx) :
    val_main_v5 (F := F) x0 i = val_main_v4 (F := F) x0 (idx_main_v5 i) := by
  unfold val_main_v5
  generalize val_main_v4 (F := F) x0 = y
  exact broadcastInDim_apply _ bcast_S30720_S30720x1_0 y i (idx_main_v5 i) (fun a => match a with
    | ⟨0, _⟩ => by show (i 0).val = if (30720 : Nat) = 1 then 0 else (i 0).val; rw [if_neg (by decide)])

def val_main_v6 (x0 : (⟨S30x1024x4096, .bf16⟩ : BufTy).Contents (Elt F)) : (⟨S30720x4096, .f32⟩ : BufTy).Contents (Elt F) :=
  broadcastInDim S30720x4096 ![0, 1] bcast_S30720x1_S30720x4096_0_1 (val_main_v5 (F := F) x0)
abbrev idx_main_v6 (i : S30720x4096.Idx) : S30720x1.Idx := fun a => match a with
  | ⟨0, _⟩ => ⟨(i 0).val, (i 0).isLt⟩
  | ⟨1, _⟩ => ⟨0, Nat.one_pos⟩
theorem val_main_v6_apply (x0 : (⟨S30x1024x4096, .bf16⟩ : BufTy).Contents (Elt F)) (i : S30720x4096.Idx) :
    val_main_v6 (F := F) x0 i = val_main_v5 (F := F) x0 (idx_main_v6 i) := by
  unfold val_main_v6
  generalize val_main_v5 (F := F) x0 = y
  exact broadcastInDim_apply _ bcast_S30720x1_S30720x4096_0_1 y i (idx_main_v6 i) (fun a => match a with
    | ⟨0, _⟩ => by show (i 0).val = if (30720 : Nat) = 1 then 0 else (i 0).val; rw [if_neg (by decide)]
    | ⟨1, _⟩ => by show 0 = if (1 : Nat) = 1 then 0 else (i 1).val; rw [if_pos rfl])

def val_main_v7 (x0 : (⟨S30x1024x4096, .bf16⟩ : BufTy).Contents (Elt F)) : (⟨S30720x4096, .f32⟩ : BufTy).Contents (Elt F) :=
  subf (val_main_v1 (F := F) x0) (val_main_v6 (F := F) x0)
theorem val_main_v7_apply (x0 : (⟨S30x1024x4096, .bf16⟩ : BufTy).Contents (Elt F)) (i : S30720x4096.Idx) :
    val_main_v7 (F := F) x0 i = FloatOps.subf (val_main_v1 (F := F) x0 i) (val_main_v6 (F := F) x0 i) := rfl

def val_main_v8 (x0 : (⟨S30x1024x4096, .bf16⟩ : BufTy).Contents (Elt F)) : (⟨S30720x4096, .f32⟩ : BufTy).Contents (Elt F) :=
  mulf (val_main_v7 (F := F) x0) (val_main_v7 (F := F) x0)
theorem val_main_v8_apply (x0 : (⟨S30x1024x4096, .bf16⟩ : BufTy).Contents (Elt F)) (i : S30720x4096.Idx) :
    val_main_v8 (F := F) x0 i = FloatOps.mulf (val_main_v7 (F := F) x0 i) (val_main_v7 (F := F) x0 i) := rfl

def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

def val_main_v9 (x0 : (⟨S30x1024x4096, .bf16⟩ : BufTy).Contents (Elt F)) : (⟨S30720, .f32⟩ : BufTy).Contents (Elt F) :=
  Host.reduceAdd (val_main_v8 (F := F) x0) (val_main_cst_1 (F := F)) reducesTo_S30720x4096_S30720_d1 h_S_
abbrev idx_main_v9 (i : S30720.Idx) (k : Fin 4096) : S30720x4096.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v9_apply (x0 : (⟨S30x1024x4096, .bf16⟩ : BufTy).Contents (Elt Ideal)) (i : S30720.Idx) :
    val_main_v9 (F := Ideal) x0 i = (val_main_cst_1 (F := Ideal)) (Shape.Idx.first h_S_) + ∑ k : Fin 4096, (val_main_v8 (F := Ideal) x0) (idx_main_v9 i k) := by
  unfold val_main_v9
  generalize val_main_v8 (F := Ideal) x0 = y0
  simp only [Host.reduceAdd, Ideal.hostReduceAdd_def]
  rw [Ideal.hostReduceAdd_single reducesTo_S30720x4096_S30720_d1 (by decide)]
  refine congrArg (_ + ·) (Finset.sum_congr rfl fun k _ => ?_)
  exact congrArg y0 (funext fun a => Fin.ext (by match a with | ⟨0, _⟩ => rfl | ⟨1, _⟩ => rfl))

def val_main_cst_2 : (⟨S_, .f32⟩ : BufTy).Contents (Elt F) :=
  constant S_ .f32 0x45800000#32
theorem val_main_cst_2_apply (i : S_.Idx) :
    val_main_cst_2 (F := F) i = FloatOps.ofBits .f32 0x45800000#32 := rfl

def val_main_v10 : (⟨S30720, .f32⟩ : BufTy).Contents (Elt F) :=
  broadcastInDim S30720 ![] bcast_S_S30720 (val_main_cst_2 (F := F))
abbrev idx_main_v10 (i : S30720.Idx) : S_.Idx := fun a => a.elim0
theorem val_main_v10_apply (i : S30720.Idx) :
    val_main_v10 (F := F) i = val_main_cst_2 (F := F) (idx_main_v10 i) := by
  unfold val_main_v10
  generalize val_main_cst_2 (F := F) = y
  exact broadcastInDim_apply _ bcast_S_S30720 y i (idx_main_v10 i) (fun a => a.elim0)

def val_main_v11 (x0 : (⟨S30x1024x4096, .bf16⟩ : BufTy).Contents (Elt F)) : (⟨S30720, .f32⟩ : BufTy).Contents (Elt F) :=
  Host.divf (val_main_v9 (F := F) x0) (val_main_v10 (F := F))
theorem val_main_v11_apply (x0 : (⟨S30x1024x4096, .bf16⟩ : BufTy).Contents (Elt F)) (i : S30720.Idx) :
    val_main_v11 (F := F) x0 i = FloatOps.hostDivf (val_main_v9 (F := F) x0 i) (val_main_v10 (F := F) i) := rfl

def val_main_cst_3 : (⟨S_, .f32⟩ : BufTy).Contents (Elt F) :=
  constant S_ .f32 0x3727C5AC#32
theorem val_main_cst_3_apply (i : S_.Idx) :
    val_main_cst_3 (F := F) i = FloatOps.ofBits .f32 0x3727C5AC#32 := rfl

def val_main_v12 : (⟨S30720, .f32⟩ : BufTy).Contents (Elt F) :=
  broadcastInDim S30720 ![] bcast_S_S30720 (val_main_cst_3 (F := F))
abbrev idx_main_v12 (i : S30720.Idx) : S_.Idx := fun a => a.elim0
theorem val_main_v12_apply (i : S30720.Idx) :
    val_main_v12 (F := F) i = val_main_cst_3 (F := F) (idx_main_v12 i) := by
  unfold val_main_v12
  generalize val_main_cst_3 (F := F) = y
  exact broadcastInDim_apply _ bcast_S_S30720 y i (idx_main_v12 i) (fun a => a.elim0)

def val_main_v13 (x0 : (⟨S30x1024x4096, .bf16⟩ : BufTy).Contents (Elt F)) : (⟨S30720, .f32⟩ : BufTy).Contents (Elt F) :=
  addf (val_main_v11 (F := F) x0) (val_main_v12 (F := F))
theorem val_main_v13_apply (x0 : (⟨S30x1024x4096, .bf16⟩ : BufTy).Contents (Elt F)) (i : S30720.Idx) :
    val_main_v13 (F := F) x0 i = FloatOps.addf (val_main_v11 (F := F) x0 i) (val_main_v12 (F := F) i) := rfl

def val_main_v14 (x0 : (⟨S30x1024x4096, .bf16⟩ : BufTy).Contents (Elt F)) : (⟨S30720, .f32⟩ : BufTy).Contents (Elt F) :=
  Host.rsqrt (val_main_v13 (F := F) x0)
theorem val_main_v14_apply (x0 : (⟨S30x1024x4096, .bf16⟩ : BufTy).Contents (Elt F)) (i : S30720.Idx) :
    val_main_v14 (F := F) x0 i = FloatOps.hostUnary .rsqrt (val_main_v13 (F := F) x0 i) := rfl

def val_main_v15 (x0 : (⟨S30x1024x4096, .bf16⟩ : BufTy).Contents (Elt F)) : (⟨S30720x1, .f32⟩ : BufTy).Contents (Elt F) :=
  broadcastInDim S30720x1 ![0] bcast_S30720_S30720x1_0 (val_main_v14 (F := F) x0)
abbrev idx_main_v15 (i : S30720x1.Idx) : S30720.Idx := fun a => match a with
  | ⟨0, _⟩ => ⟨(i 0).val, (i 0).isLt⟩
theorem val_main_v15_apply (x0 : (⟨S30x1024x4096, .bf16⟩ : BufTy).Contents (Elt F)) (i : S30720x1.Idx) :
    val_main_v15 (F := F) x0 i = val_main_v14 (F := F) x0 (idx_main_v15 i) := by
  unfold val_main_v15
  generalize val_main_v14 (F := F) x0 = y
  exact broadcastInDim_apply _ bcast_S30720_S30720x1_0 y i (idx_main_v15 i) (fun a => match a with
    | ⟨0, _⟩ => by show (i 0).val = if (30720 : Nat) = 1 then 0 else (i 0).val; rw [if_neg (by decide)])

def val_main_v16 (x0 : (⟨S30x1024x4096, .bf16⟩ : BufTy).Contents (Elt F)) : (⟨S30720x4096, .f32⟩ : BufTy).Contents (Elt F) :=
  broadcastInDim S30720x4096 ![0, 1] bcast_S30720x1_S30720x4096_0_1 (val_main_v15 (F := F) x0)
abbrev idx_main_v16 (i : S30720x4096.Idx) : S30720x1.Idx := fun a => match a with
  | ⟨0, _⟩ => ⟨(i 0).val, (i 0).isLt⟩
  | ⟨1, _⟩ => ⟨0, Nat.one_pos⟩
theorem val_main_v16_apply (x0 : (⟨S30x1024x4096, .bf16⟩ : BufTy).Contents (Elt F)) (i : S30720x4096.Idx) :
    val_main_v16 (F := F) x0 i = val_main_v15 (F := F) x0 (idx_main_v16 i) := by
  unfold val_main_v16
  generalize val_main_v15 (F := F) x0 = y
  exact broadcastInDim_apply _ bcast_S30720x1_S30720x4096_0_1 y i (idx_main_v16 i) (fun a => match a with
    | ⟨0, _⟩ => by show (i 0).val = if (30720 : Nat) = 1 then 0 else (i 0).val; rw [if_neg (by decide)]
    | ⟨1, _⟩ => by show 0 = if (1 : Nat) = 1 then 0 else (i 1).val; rw [if_pos rfl])

def val_main_v17 (x0 : (⟨S30x1024x4096, .bf16⟩ : BufTy).Contents (Elt F)) : (⟨S30720x4096, .f32⟩ : BufTy).Contents (Elt F) :=
  mulf (val_main_v7 (F := F) x0) (val_main_v16 (F := F) x0)
theorem val_main_v17_apply (x0 : (⟨S30x1024x4096, .bf16⟩ : BufTy).Contents (Elt F)) (i : S30720x4096.Idx) :
    val_main_v17 (F := F) x0 i = FloatOps.mulf (val_main_v7 (F := F) x0 i) (val_main_v16 (F := F) x0 i) := rfl

def val_main_v18 (x1 : (⟨S4096, .bf16⟩ : BufTy).Contents (Elt F)) : (⟨S4096, .f32⟩ : BufTy).Contents (Elt F) :=
  extf .f32 (x1) bitsLt_bf16_f32
theorem val_main_v18_apply (x1 : (⟨S4096, .bf16⟩ : BufTy).Contents (Elt F)) (i : S4096.Idx) :
    val_main_v18 (F := F) x1 i = FloatOps.extf .f32 bitsLt_bf16_f32 (x1 i) := rfl

def val_main_v19 (x1 : (⟨S4096, .bf16⟩ : BufTy).Contents (Elt F)) : (⟨S1x4096, .f32⟩ : BufTy).Contents (Elt F) :=
  broadcastInDim S1x4096 ![1] bcast_S4096_S1x4096_1 (val_main_v18 (F := F) x1)
abbrev idx_main_v19 (i : S1x4096.Idx) : S4096.Idx := fun a => match a with
  | ⟨0, _⟩ => ⟨(i 1).val, (i 1).isLt⟩
theorem val_main_v19_apply (x1 : (⟨S4096, .bf16⟩ : BufTy).Contents (Elt F)) (i : S1x4096.Idx) :
    val_main_v19 (F := F) x1 i = val_main_v18 (F := F) x1 (idx_main_v19 i) := by
  unfold val_main_v19
  generalize val_main_v18 (F := F) x1 = y
  exact broadcastInDim_apply _ bcast_S4096_S1x4096_1 y i (idx_main_v19 i) (fun a => match a with
    | ⟨0, _⟩ => by show (i 1).val = if (4096 : Nat) = 1 then 0 else (i 1).val; rw [if_neg (by decide)])

def val_main_v20 (x1 : (⟨S4096, .bf16⟩ : BufTy).Contents (Elt F)) : (⟨S30720x4096, .f32⟩ : BufTy).Contents (Elt F) :=
  broadcastInDim S30720x4096 ![0, 1] bcast_S1x4096_S30720x4096_0_1 (val_main_v19 (F := F) x1)
abbrev idx_main_v20 (i : S30720x4096.Idx) : S1x4096.Idx := fun a => match a with
  | ⟨0, _⟩ => ⟨0, Nat.one_pos⟩
  | ⟨1, _⟩ => ⟨(i 1).val, (i 1).isLt⟩
theorem val_main_v20_apply (x1 : (⟨S4096, .bf16⟩ : BufTy).Contents (Elt F)) (i : S30720x4096.Idx) :
    val_main_v20 (F := F) x1 i = val_main_v19 (F := F) x1 (idx_main_v20 i) := by
  unfold val_main_v20
  generalize val_main_v19 (F := F) x1 = y
  exact broadcastInDim_apply _ bcast_S1x4096_S30720x4096_0_1 y i (idx_main_v20 i) (fun a => match a with
    | ⟨0, _⟩ => by show 0 = if (1 : Nat) = 1 then 0 else (i 0).val; rw [if_pos rfl]
    | ⟨1, _⟩ => by show (i 1).val = if (4096 : Nat) = 1 then 0 else (i 1).val; rw [if_neg (by decide)])

def val_main_v21 (x0 : (⟨S30x1024x4096, .bf16⟩ : BufTy).Contents (Elt F)) (x1 : (⟨S4096, .bf16⟩ : BufTy).Contents (Elt F)) : (⟨S30720x4096, .f32⟩ : BufTy).Contents (Elt F) :=
  mulf (val_main_v17 (F := F) x0) (val_main_v20 (F := F) x1)
theorem val_main_v21_apply (x0 : (⟨S30x1024x4096, .bf16⟩ : BufTy).Contents (Elt F)) (x1 : (⟨S4096, .bf16⟩ : BufTy).Contents (Elt F)) (i : S30720x4096.Idx) :
    val_main_v21 (F := F) x0 x1 i = FloatOps.mulf (val_main_v17 (F := F) x0 i) (val_main_v20 (F := F) x1 i) := rfl

def val_main_v22 (x2 : (⟨S4096, .bf16⟩ : BufTy).Contents (Elt F)) : (⟨S4096, .f32⟩ : BufTy).Contents (Elt F) :=
  extf .f32 (x2) bitsLt_bf16_f32
theorem val_main_v22_apply (x2 : (⟨S4096, .bf16⟩ : BufTy).Contents (Elt F)) (i : S4096.Idx) :
    val_main_v22 (F := F) x2 i = FloatOps.extf .f32 bitsLt_bf16_f32 (x2 i) := rfl

def val_main_v23 (x2 : (⟨S4096, .bf16⟩ : BufTy).Contents (Elt F)) : (⟨S1x4096, .f32⟩ : BufTy).Contents (Elt F) :=
  broadcastInDim S1x4096 ![1] bcast_S4096_S1x4096_1 (val_main_v22 (F := F) x2)
abbrev idx_main_v23 (i : S1x4096.Idx) : S4096.Idx := fun a => match a with
  | ⟨0, _⟩ => ⟨(i 1).val, (i 1).isLt⟩
theorem val_main_v23_apply (x2 : (⟨S4096, .bf16⟩ : BufTy).Contents (Elt F)) (i : S1x4096.Idx) :
    val_main_v23 (F := F) x2 i = val_main_v22 (F := F) x2 (idx_main_v23 i) := by
  unfold val_main_v23
  generalize val_main_v22 (F := F) x2 = y
  exact broadcastInDim_apply _ bcast_S4096_S1x4096_1 y i (idx_main_v23 i) (fun a => match a with
    | ⟨0, _⟩ => by show (i 1).val = if (4096 : Nat) = 1 then 0 else (i 1).val; rw [if_neg (by decide)])

def val_main_v24 (x2 : (⟨S4096, .bf16⟩ : BufTy).Contents (Elt F)) : (⟨S30720x4096, .f32⟩ : BufTy).Contents (Elt F) :=
  broadcastInDim S30720x4096 ![0, 1] bcast_S1x4096_S30720x4096_0_1 (val_main_v23 (F := F) x2)
abbrev idx_main_v24 (i : S30720x4096.Idx) : S1x4096.Idx := fun a => match a with
  | ⟨0, _⟩ => ⟨0, Nat.one_pos⟩
  | ⟨1, _⟩ => ⟨(i 1).val, (i 1).isLt⟩
theorem val_main_v24_apply (x2 : (⟨S4096, .bf16⟩ : BufTy).Contents (Elt F)) (i : S30720x4096.Idx) :
    val_main_v24 (F := F) x2 i = val_main_v23 (F := F) x2 (idx_main_v24 i) := by
  unfold val_main_v24
  generalize val_main_v23 (F := F) x2 = y
  exact broadcastInDim_apply _ bcast_S1x4096_S30720x4096_0_1 y i (idx_main_v24 i) (fun a => match a with
    | ⟨0, _⟩ => by show 0 = if (1 : Nat) = 1 then 0 else (i 0).val; rw [if_pos rfl]
    | ⟨1, _⟩ => by show (i 1).val = if (4096 : Nat) = 1 then 0 else (i 1).val; rw [if_neg (by decide)])

def val_main_v25 (x0 : (⟨S30x1024x4096, .bf16⟩ : BufTy).Contents (Elt F)) (x1 x2 : (⟨S4096, .bf16⟩ : BufTy).Contents (Elt F)) : (⟨S30720x4096, .f32⟩ : BufTy).Contents (Elt F) :=
  addf (val_main_v21 (F := F) x0 x1) (val_main_v24 (F := F) x2)
theorem val_main_v25_apply (x0 : (⟨S30x1024x4096, .bf16⟩ : BufTy).Contents (Elt F)) (x1 x2 : (⟨S4096, .bf16⟩ : BufTy).Contents (Elt F)) (i : S30720x4096.Idx) :
    val_main_v25 (F := F) x0 x1 x2 i = FloatOps.addf (val_main_v21 (F := F) x0 x1 i) (val_main_v24 (F := F) x2 i) := rfl

def val_main_v26 (x0 : (⟨S30x1024x4096, .bf16⟩ : BufTy).Contents (Elt F)) (x1 x2 : (⟨S4096, .bf16⟩ : BufTy).Contents (Elt F)) : (⟨S240x128x4096, .f32⟩ : BufTy).Contents (Elt F) :=
  shapeCast _ (val_main_v25 (F := F) x0 x1 x2) shapeCasts_S30720x4096_S240x128x4096
set_option backward.proofsInPublic true in
abbrev idx_main_v26 (i : S240x128x4096.Idx) : S30720x4096.Idx := fun a => match a with
  | ⟨0, _⟩ => ⟨(((i 0).val * 128 + (i 1).val) * 4096 + (i 2).val) / 4096, by have h0 : (i 0).val < 240 := (i 0).isLt; have h1 : (i 1).val < 128 := (i 1).isLt; have h2 : (i 2).val < 4096 := (i 2).isLt; show (((i 0).val * 128 + (i 1).val) * 4096 + (i 2).val) / 4096 < 30720; omega⟩
  | ⟨1, _⟩ => ⟨(((i 0).val * 128 + (i 1).val) * 4096 + (i 2).val) % 4096, by have h0 : (i 0).val < 240 := (i 0).isLt; have h1 : (i 1).val < 128 := (i 1).isLt; have h2 : (i 2).val < 4096 := (i 2).isLt; show (((i 0).val * 128 + (i 1).val) * 4096 + (i 2).val) % 4096 < 4096; omega⟩
theorem val_main_v26_apply (x0 : (⟨S30x1024x4096, .bf16⟩ : BufTy).Contents (Elt F)) (x1 x2 : (⟨S4096, .bf16⟩ : BufTy).Contents (Elt F)) (i : S240x128x4096.Idx) :
    val_main_v26 (F := F) x0 x1 x2 i = val_main_v25 (F := F) x0 x1 x2 (idx_main_v26 i) := by
  unfold val_main_v26
  generalize val_main_v25 (F := F) x0 x1 x2 = y
  exact shapeCast_apply y shapeCasts_S30720x4096_S240x128x4096 i (idx_main_v26 i)
    (by rewrite [Shape.rowMajor_val_two, Shape.rowMajor_val_three]; have h0 : (i 0).val < 240 := (i 0).isLt; have h1 : (i 1).val < 128 := (i 1).isLt; have h2 : (i 2).val < 4096 := (i 2).isLt; show (((i 0).val * 128 + (i 1).val) * 4096 + (i 2).val) / 4096 * 4096 + (((i 0).val * 128 + (i 1).val) * 4096 + (i 2).val) % 4096 = ((i 0).val * 128 + (i 1).val) * 4096 + (i 2).val; omega)

def val_main_v27 (x0 : (⟨S30x1024x4096, .bf16⟩ : BufTy).Contents (Elt F)) (x1 x2 : (⟨S4096, .bf16⟩ : BufTy).Contents (Elt F)) : (⟨S240x128x4096, .f32⟩ : BufTy).Contents (Elt F) :=
  Host.absf (val_main_v26 (F := F) x0 x1 x2)
theorem val_main_v27_apply (x0 : (⟨S30x1024x4096, .bf16⟩ : BufTy).Contents (Elt F)) (x1 x2 : (⟨S4096, .bf16⟩ : BufTy).Contents (Elt F)) (i : S240x128x4096.Idx) :
    val_main_v27 (F := F) x0 x1 x2 i = FloatOps.hostAbsf (val_main_v26 (F := F) x0 x1 x2 i) := rfl

def val_main_cst_4 : (⟨S_, .f32⟩ : BufTy).Contents (Elt F) :=
  constant S_ .f32 0xFF800000#32
theorem val_main_cst_4_apply (i : S_.Idx) :
    val_main_cst_4 (F := F) i = FloatOps.ofBits .f32 0xFF800000#32 := rfl

def val_main_v28 (x0 : (⟨S30x1024x4096, .bf16⟩ : BufTy).Contents (Elt F)) (x1 x2 : (⟨S4096, .bf16⟩ : BufTy).Contents (Elt F)) : (⟨S240x4096, .f32⟩ : BufTy).Contents (Elt F) :=
  Host.reduce FloatOps.maximumf (val_main_v27 (F := F) x0 x1 x2) (val_main_cst_4 (F := F)) reducesTo_S240x128x4096_S240x4096_d1 h_S_

def val_main_v29 : (⟨S240x254x4096, .f32⟩ : BufTy).Contents (Elt F) :=
  sitofp .f32 (iotaInDim S240x254x4096 32 1)

def val_main_cst_5 : (⟨S_, .f32⟩ : BufTy).Contents (Elt F) :=
  constant S_ .f32 0x42FC0000#32
theorem val_main_cst_5_apply (i : S_.Idx) :
    val_main_cst_5 (F := F) i = FloatOps.ofBits .f32 0x42FC0000#32 := rfl

def val_main_v30 : (⟨S240x254x4096, .f32⟩ : BufTy).Contents (Elt F) :=
  broadcastInDim S240x254x4096 ![] bcast_S_S240x254x4096 (val_main_cst_5 (F := F))
abbrev idx_main_v30 (i : S240x254x4096.Idx) : S_.Idx := fun a => a.elim0
theorem val_main_v30_apply (i : S240x254x4096.Idx) :
    val_main_v30 (F := F) i = val_main_cst_5 (F := F) (idx_main_v30 i) := by
  unfold val_main_v30
  generalize val_main_cst_5 (F := F) = y
  exact broadcastInDim_apply _ bcast_S_S240x254x4096 y i (idx_main_v30 i) (fun a => a.elim0)

def val_main_v31 : (⟨S240x254x4096, .f32⟩ : BufTy).Contents (Elt F) :=
  subf (val_main_v29 (F := F)) (val_main_v30 (F := F))
theorem val_main_v31_apply (i : S240x254x4096.Idx) :
    val_main_v31 (F := F) i = FloatOps.subf (val_main_v29 (F := F) i) (val_main_v30 (F := F) i) := rfl

def val_main_cst_6 : (⟨S_, .f32⟩ : BufTy).Contents (Elt F) :=
  constant S_ .f32 0x40000000#32
theorem val_main_cst_6_apply (i : S_.Idx) :
    val_main_cst_6 (F := F) i = FloatOps.ofBits .f32 0x40000000#32 := rfl

def val_main_v32 : (⟨S240x254x4096, .f32⟩ : BufTy).Contents (Elt F) :=
  broadcastInDim S240x254x4096 ![] bcast_S_S240x254x4096 (val_main_cst_6 (F := F))
abbrev idx_main_v32 (i : S240x254x4096.Idx) : S_.Idx := fun a => a.elim0
theorem val_main_v32_apply (i : S240x254x4096.Idx) :
    val_main_v32 (F := F) i = val_main_cst_6 (F := F) (idx_main_v32 i) := by
  unfold val_main_v32
  generalize val_main_cst_6 (F := F) = y
  exact broadcastInDim_apply _ bcast_S_S240x254x4096 y i (idx_main_v32 i) (fun a => a.elim0)

def val_main_v33 : (⟨S240x254x4096, .f32⟩ : BufTy).Contents (Elt F) :=
  Host.powf (val_main_v32 (F := F)) (val_main_v31 (F := F))
theorem val_main_v33_apply (i : S240x254x4096.Idx) :
    val_main_v33 (F := F) i = FloatOps.hostPowf (val_main_v32 (F := F) i) (val_main_v31 (F := F) i) := rfl

def val_main_cst_7 : (⟨S_, .f32⟩ : BufTy).Contents (Elt F) :=
  constant S_ .f32 0x3B124925#32
theorem val_main_cst_7_apply (i : S_.Idx) :
    val_main_cst_7 (F := F) i = FloatOps.ofBits .f32 0x3B124925#32 := rfl

def val_main_v34 : (⟨S240x4096, .f32⟩ : BufTy).Contents (Elt F) :=
  broadcastInDim S240x4096 ![] bcast_S_S240x4096 (val_main_cst_7 (F := F))
abbrev idx_main_v34 (i : S240x4096.Idx) : S_.Idx := fun a => a.elim0
theorem val_main_v34_apply (i : S240x4096.Idx) :
    val_main_v34 (F := F) i = val_main_cst_7 (F := F) (idx_main_v34 i) := by
  unfold val_main_v34
  generalize val_main_cst_7 (F := F) = y
  exact broadcastInDim_apply _ bcast_S_S240x4096 y i (idx_main_v34 i) (fun a => a.elim0)

def val_main_v35 (x0 : (⟨S30x1024x4096, .bf16⟩ : BufTy).Contents (Elt F)) (x1 x2 : (⟨S4096, .bf16⟩ : BufTy).Contents (Elt F)) : (⟨S240x4096, .f32⟩ : BufTy).Contents (Elt F) :=
  mulf (val_main_v28 (F := F) x0 x1 x2) (val_main_v34 (F := F))
theorem val_main_v35_apply (x0 : (⟨S30x1024x4096, .bf16⟩ : BufTy).Contents (Elt F)) (x1 x2 : (⟨S4096, .bf16⟩ : BufTy).Contents (Elt F)) (i : S240x4096.Idx) :
    val_main_v35 (F := F) x0 x1 x2 i = FloatOps.mulf (val_main_v28 (F := F) x0 x1 x2 i) (val_main_v34 (F := F) i) := rfl

def val_main_v36 (x0 : (⟨S30x1024x4096, .bf16⟩ : BufTy).Contents (Elt F)) (x1 x2 : (⟨S4096, .bf16⟩ : BufTy).Contents (Elt F)) : (⟨S240x1x4096, .f32⟩ : BufTy).Contents (Elt F) :=
  broadcastInDim S240x1x4096 ![0, 2] bcast_S240x4096_S240x1x4096_0_2 (val_main_v35 (F := F) x0 x1 x2)
abbrev idx_main_v36 (i : S240x1x4096.Idx) : S240x4096.Idx := fun a => match a with
  | ⟨0, _⟩ => ⟨(i 0).val, (i 0).isLt⟩
  | ⟨1, _⟩ => ⟨(i 2).val, (i 2).isLt⟩
theorem val_main_v36_apply (x0 : (⟨S30x1024x4096, .bf16⟩ : BufTy).Contents (Elt F)) (x1 x2 : (⟨S4096, .bf16⟩ : BufTy).Contents (Elt F)) (i : S240x1x4096.Idx) :
    val_main_v36 (F := F) x0 x1 x2 i = val_main_v35 (F := F) x0 x1 x2 (idx_main_v36 i) := by
  unfold val_main_v36
  generalize val_main_v35 (F := F) x0 x1 x2 = y
  exact broadcastInDim_apply _ bcast_S240x4096_S240x1x4096_0_2 y i (idx_main_v36 i) (fun a => match a with
    | ⟨0, _⟩ => by show (i 0).val = if (240 : Nat) = 1 then 0 else (i 0).val; rw [if_neg (by decide)]
    | ⟨1, _⟩ => by show (i 2).val = if (4096 : Nat) = 1 then 0 else (i 2).val; rw [if_neg (by decide)])

def val_main_v37 (x0 : (⟨S30x1024x4096, .bf16⟩ : BufTy).Contents (Elt F)) (x1 x2 : (⟨S4096, .bf16⟩ : BufTy).Contents (Elt F)) : (⟨S240x254x4096, .f32⟩ : BufTy).Contents (Elt F) :=
  broadcastInDim S240x254x4096 ![0, 1, 2] bcast_S240x1x4096_S240x254x4096_0_1_2 (val_main_v36 (F := F) x0 x1 x2)
abbrev idx_main_v37 (i : S240x254x4096.Idx) : S240x1x4096.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v37_apply (x0 : (⟨S30x1024x4096, .bf16⟩ : BufTy).Contents (Elt F)) (x1 x2 : (⟨S4096, .bf16⟩ : BufTy).Contents (Elt F)) (i : S240x254x4096.Idx) :
    val_main_v37 (F := F) x0 x1 x2 i = val_main_v36 (F := F) x0 x1 x2 (idx_main_v37 i) := by
  unfold val_main_v37
  generalize val_main_v36 (F := F) x0 x1 x2 = y
  exact broadcastInDim_apply _ bcast_S240x1x4096_S240x254x4096_0_1_2 y i (idx_main_v37 i) (fun a => match a with
    | ⟨0, _⟩ => by show (i 0).val = if (240 : Nat) = 1 then 0 else (i 0).val; rw [if_neg (by decide)]
    | ⟨1, _⟩ => by show 0 = if (1 : Nat) = 1 then 0 else (i 1).val; rw [if_pos rfl]
    | ⟨2, _⟩ => by show (i 2).val = if (4096 : Nat) = 1 then 0 else (i 2).val; rw [if_neg (by decide)])

def val_main_v38 (x0 : (⟨S30x1024x4096, .bf16⟩ : BufTy).Contents (Elt F)) (x1 x2 : (⟨S4096, .bf16⟩ : BufTy).Contents (Elt F)) : (⟨S240x254x4096, .i1⟩ : BufTy).Contents (Elt F) :=
  cmpf .ogt (val_main_v33 (F := F)) (val_main_v37 (F := F) x0 x1 x2)
theorem val_main_v38_apply (x0 : (⟨S30x1024x4096, .bf16⟩ : BufTy).Contents (Elt F)) (x1 x2 : (⟨S4096, .bf16⟩ : BufTy).Contents (Elt F)) (i : S240x254x4096.Idx) :
    val_main_v38 (F := F) x0 x1 x2 i = FloatOps.cmpf .ogt (val_main_v33 (F := F) i) (val_main_v37 (F := F) x0 x1 x2 i) := rfl

def val_main_cst_8 : (⟨S_, .f32⟩ : BufTy).Contents (Elt F) :=
  constant S_ .f32 0x7F000000#32
theorem val_main_cst_8_apply (i : S_.Idx) :
    val_main_cst_8 (F := F) i = FloatOps.ofBits .f32 0x7F000000#32 := rfl

def val_main_v39 : (⟨S240x254x4096, .f32⟩ : BufTy).Contents (Elt F) :=
  broadcastInDim S240x254x4096 ![] bcast_S_S240x254x4096 (val_main_cst_8 (F := F))
abbrev idx_main_v39 (i : S240x254x4096.Idx) : S_.Idx := fun a => a.elim0
theorem val_main_v39_apply (i : S240x254x4096.Idx) :
    val_main_v39 (F := F) i = val_main_cst_8 (F := F) (idx_main_v39 i) := by
  unfold val_main_v39
  generalize val_main_cst_8 (F := F) = y
  exact broadcastInDim_apply _ bcast_S_S240x254x4096 y i (idx_main_v39 i) (fun a => a.elim0)

def val_main_v40 (x0 : (⟨S30x1024x4096, .bf16⟩ : BufTy).Contents (Elt F)) (x1 x2 : (⟨S4096, .bf16⟩ : BufTy).Contents (Elt F)) : (⟨S240x254x4096, .f32⟩ : BufTy).Contents (Elt F) :=
  select (val_main_v38 (F := F) x0 x1 x2) (val_main_v33 (F := F)) (val_main_v39 (F := F))
theorem val_main_v40_apply (x0 : (⟨S30x1024x4096, .bf16⟩ : BufTy).Contents (Elt F)) (x1 x2 : (⟨S4096, .bf16⟩ : BufTy).Contents (Elt F)) (i : S240x254x4096.Idx) :
    val_main_v40 (F := F) x0 x1 x2 i = Scalar.select (val_main_v38 (F := F) x0 x1 x2 i) (val_main_v33 (F := F) i) (val_main_v39 (F := F) i) := rfl

def val_main_cst_9 : (⟨S_, .f32⟩ : BufTy).Contents (Elt F) :=
  constant S_ .f32 0x00000000#32
theorem val_main_cst_9_apply (i : S_.Idx) :
    val_main_cst_9 (F := F) i = FloatOps.ofBits .f32 0x00000000#32 := rfl

def val_main_v41 : (⟨S240x4096, .f32⟩ : BufTy).Contents (Elt F) :=
  broadcastInDim S240x4096 ![] bcast_S_S240x4096 (val_main_cst_9 (F := F))
abbrev idx_main_v41 (i : S240x4096.Idx) : S_.Idx := fun a => a.elim0
theorem val_main_v41_apply (i : S240x4096.Idx) :
    val_main_v41 (F := F) i = val_main_cst_9 (F := F) (idx_main_v41 i) := by
  unfold val_main_v41
  generalize val_main_cst_9 (F := F) = y
  exact broadcastInDim_apply _ bcast_S_S240x4096 y i (idx_main_v41 i) (fun a => a.elim0)

def val_main_v42 (x0 : (⟨S30x1024x4096, .bf16⟩ : BufTy).Contents (Elt F)) (x1 x2 : (⟨S4096, .bf16⟩ : BufTy).Contents (Elt F)) : (⟨S240x4096, .i1⟩ : BufTy).Contents (Elt F) :=
  cmpf .oeq (val_main_v28 (F := F) x0 x1 x2) (val_main_v41 (F := F))
theorem val_main_v42_apply (x0 : (⟨S30x1024x4096, .bf16⟩ : BufTy).Contents (Elt F)) (x1 x2 : (⟨S4096, .bf16⟩ : BufTy).Contents (Elt F)) (i : S240x4096.Idx) :
    val_main_v42 (F := F) x0 x1 x2 i = FloatOps.cmpf .oeq (val_main_v28 (F := F) x0 x1 x2 i) (val_main_v41 (F := F) i) := rfl

def val_main_cst_10 : (⟨S_, .f32⟩ : BufTy).Contents (Elt F) :=
  constant S_ .f32 0x3F800000#32
theorem val_main_cst_10_apply (i : S_.Idx) :
    val_main_cst_10 (F := F) i = FloatOps.ofBits .f32 0x3F800000#32 := rfl

def val_main_v43 : (⟨S240x4096, .f32⟩ : BufTy).Contents (Elt F) :=
  broadcastInDim S240x4096 ![] bcast_S_S240x4096 (val_main_cst_10 (F := F))
abbrev idx_main_v43 (i : S240x4096.Idx) : S_.Idx := fun a => a.elim0
theorem val_main_v43_apply (i : S240x4096.Idx) :
    val_main_v43 (F := F) i = val_main_cst_10 (F := F) (idx_main_v43 i) := by
  unfold val_main_v43
  generalize val_main_cst_10 (F := F) = y
  exact broadcastInDim_apply _ bcast_S_S240x4096 y i (idx_main_v43 i) (fun a => a.elim0)

def val_main_cst_11 : (⟨S_, .f32⟩ : BufTy).Contents (Elt F) :=
  constant S_ .f32 0x7F800000#32
theorem val_main_cst_11_apply (i : S_.Idx) :
    val_main_cst_11 (F := F) i = FloatOps.ofBits .f32 0x7F800000#32 := rfl

def val_main_v44 (x0 : (⟨S30x1024x4096, .bf16⟩ : BufTy).Contents (Elt F)) (x1 x2 : (⟨S4096, .bf16⟩ : BufTy).Contents (Elt F)) : (⟨S240x4096, .f32⟩ : BufTy).Contents (Elt F) :=
  Host.reduce FloatOps.minimumf (val_main_v40 (F := F) x0 x1 x2) (val_main_cst_11 (F := F)) reducesTo_S240x254x4096_S240x4096_d1 h_S_

def val_main_v45 (x0 : (⟨S30x1024x4096, .bf16⟩ : BufTy).Contents (Elt F)) (x1 x2 : (⟨S4096, .bf16⟩ : BufTy).Contents (Elt F)) : (⟨S240x4096, .f32⟩ : BufTy).Contents (Elt F) :=
  select (val_main_v42 (F := F) x0 x1 x2) (val_main_v43 (F := F)) (val_main_v44 (F := F) x0 x1 x2)
theorem val_main_v45_apply (x0 : (⟨S30x1024x4096, .bf16⟩ : BufTy).Contents (Elt F)) (x1 x2 : (⟨S4096, .bf16⟩ : BufTy).Contents (Elt F)) (i : S240x4096.Idx) :
    val_main_v45 (F := F) x0 x1 x2 i = Scalar.select (val_main_v42 (F := F) x0 x1 x2 i) (val_main_v43 (F := F) i) (val_main_v44 (F := F) x0 x1 x2 i) := rfl

def val_main_v46 (x0 : (⟨S30x1024x4096, .bf16⟩ : BufTy).Contents (Elt F)) (x1 x2 : (⟨S4096, .bf16⟩ : BufTy).Contents (Elt F)) : (⟨S60x4x1x4096, .f32⟩ : BufTy).Contents (Elt F) :=
  shapeCast _ (val_main_v45 (F := F) x0 x1 x2) shapeCasts_S240x4096_S60x4x1x4096
set_option backward.proofsInPublic true in
abbrev idx_main_v46 (i : S60x4x1x4096.Idx) : S240x4096.Idx := fun a => match a with
  | ⟨0, _⟩ => ⟨((((i 0).val * 4 + (i 1).val) * 1 + (i 2).val) * 4096 + (i 3).val) / 4096, by have h0 : (i 0).val < 60 := (i 0).isLt; have h1 : (i 1).val < 4 := (i 1).isLt; have h2 : (i 2).val < 1 := (i 2).isLt; have h3 : (i 3).val < 4096 := (i 3).isLt; show ((((i 0).val * 4 + (i 1).val) * 1 + (i 2).val) * 4096 + (i 3).val) / 4096 < 240; omega⟩
  | ⟨1, _⟩ => ⟨((((i 0).val * 4 + (i 1).val) * 1 + (i 2).val) * 4096 + (i 3).val) % 4096, by have h0 : (i 0).val < 60 := (i 0).isLt; have h1 : (i 1).val < 4 := (i 1).isLt; have h2 : (i 2).val < 1 := (i 2).isLt; have h3 : (i 3).val < 4096 := (i 3).isLt; show ((((i 0).val * 4 + (i 1).val) * 1 + (i 2).val) * 4096 + (i 3).val) % 4096 < 4096; omega⟩
theorem val_main_v46_apply (x0 : (⟨S30x1024x4096, .bf16⟩ : BufTy).Contents (Elt F)) (x1 x2 : (⟨S4096, .bf16⟩ : BufTy).Contents (Elt F)) (i : S60x4x1x4096.Idx) :
    val_main_v46 (F := F) x0 x1 x2 i = val_main_v45 (F := F) x0 x1 x2 (idx_main_v46 i) := by
  unfold val_main_v46
  generalize val_main_v45 (F := F) x0 x1 x2 = y
  exact shapeCast_apply y shapeCasts_S240x4096_S60x4x1x4096 i (idx_main_v46 i)
    (by rewrite [Shape.rowMajor_val_two, Shape.rowMajor_val_four]; have h0 : (i 0).val < 60 := (i 0).isLt; have h1 : (i 1).val < 4 := (i 1).isLt; have h2 : (i 2).val < 1 := (i 2).isLt; have h3 : (i 3).val < 4096 := (i 3).isLt; show ((((i 0).val * 4 + (i 1).val) * 1 + (i 2).val) * 4096 + (i 3).val) / 4096 * 4096 + ((((i 0).val * 4 + (i 1).val) * 1 + (i 2).val) * 4096 + (i 3).val) % 4096 = (((i 0).val * 4 + (i 1).val) * 1 + (i 2).val) * 4096 + (i 3).val; omega)

variable (m : (ℓ : Loc nD τ sig) → Buf (Elt F) ℓ) (c : Dev nD)

theorem exit_v4 : Value.exitV m c (Proc.devRef .tc main_v4) = val_main_v4 (F := F) (m ((c.tc : Thread nD τ).loc main_arg0)) :=
  (Value.exit_main_v4 m c).trans rfl
theorem exit_v14 : Value.exitV m c (Proc.devRef .tc main_v14) = val_main_v14 (F := F) (m ((c.tc : Thread nD τ).loc main_arg0)) :=
  (Value.exit_main_v14 m c).trans rfl
theorem exit_v25 : Value.exitV m c (Proc.devRef .tc main_v25)
    = val_main_v25 (F := F) (m ((c.tc : Thread nD τ).loc main_arg0)) (m ((c.tc : Thread nD τ).loc main_arg1)) (m ((c.tc : Thread nD τ).loc main_arg2)) :=
  (Value.exit_main_v25 m c).trans rfl
theorem exit_v46 : Value.exitV m c (Proc.devRef .tc main_v46)
    = val_main_v46 (F := F) (m ((c.tc : Thread nD τ).loc main_arg0)) (m ((c.tc : Thread nD τ).loc main_arg1)) (m ((c.tc : Thread nD τ).loc main_arg2)) :=
  (Value.exit_main_v46 m c).trans rfl

/-- The region's two operands as it finds them: the groups of the scaled tokens and their scales. -/
theorem in_v26 : Gen.V m c main_v26
    = val_main_v26 (F := F) (m ((c.tc : Thread nD τ).loc main_arg0)) (m ((c.tc : Thread nD τ).loc main_arg1)) (m ((c.tc : Thread nD τ).loc main_arg2)) := by
  show Gen.V0 m c (Proc.devRef .tc main_v26) = _
  simp only [Gen.V0, Gen.hostOps0, List.flatten_cons, List.flatten_nil, List.append_nil, List.cons_append, List.nil_append]
  after_results_simp <;> rfl
theorem in_v45 : Gen.V m c main_v45
    = val_main_v45 (F := F) (m ((c.tc : Thread nD τ).loc main_arg0)) (m ((c.tc : Thread nD τ).loc main_arg1)) (m ((c.tc : Thread nD τ).loc main_arg2)) := by
  show Gen.V0 m c (Proc.devRef .tc main_v45) = _
  simp only [Gen.V0, Gen.hostOps0, List.flatten_cons, List.flatten_nil, List.append_nil, List.cons_append, List.nil_append]
  after_results_simp <;> rfl

end Cert.ReferenceIdeal.Read

end
-- ==== Proof.Value.Trip.lean ====
/- One trip of the kernel's token loop, and the loop's invariant: every buffer the trip writes is held at some contents. -/
module

public import proofs.«01_k».proof.Proof.Gen.KernelIdeal.Skeleton
public import proofs.«01_k».proof.Proof.Gen.KernelIdeal.Loops
public import Idealize.ShloMosaic.Lib.Tactic

@[expose] public section

set_option warn.classDefReducibility false

noncomputable section

namespace Cert.Proof.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none

local notation "𝕄" => MT nD τ sig Unit (Elt F) ℕ (UR sig nD τ) ℕ

/-- A memref held at contents `f`. -/
abbrev held (c : Dev nD) {s : Shape} {e : EltTy} (m : Memref sig .tc .vmem s e) (f : BufTy.Contents (Elt F) m.view.ty) : sProp 𝕄 :=
  m.view.loc (c : Thread nD τ) ↦[m.view.set]{fullShare} f

/-- A memref held at some contents. -/
abbrev some' (c : Dev nD) {s : Shape} {e : EltTy} (m : Memref sig .tc .vmem s e) : sProp 𝕄 :=
  iprop(∃ f : BufTy.Contents (Elt F) m.view.ty, held c m f)

/-- One trip, the stores into every written buffer listed: the lists are functions of the trip and of what the buffers held. -/
noncomputable def trip (c : Dev nD) (i : grid0.Coords) (arg1 : Memref sig .tc .vmem S512x4096 .bf16) (harg1 : arg1.IsWhole) (arg2 : Memref sig .tc .vmem S1x4096 .f32) (harg2 : arg2.IsWhole) (arg3 : Memref sig .tc .vmem S1x4096 .f32) (harg3 : arg3.IsWhole) (arg4 : Memref sig .tc .vmem S512x4096 .fp8e4m3) (harg4 : arg4.IsWhole) (arg5 : Memref sig .tc .vmem S32x512 .f32) (harg5 : arg5.IsWhole) (arg6 : Memref sig .tc .vmem S4096x512 .fp8e4m3) (harg6 : arg6.IsWhole) (arg7 : Memref sig .tc .vmem S1x4x1x4096 .f32) (harg7 : arg7.IsWhole) (arg8 : Memref sig .tc .vmem S1x4x1x128 .f32) (harg8 : arg8.IsWhole) (arg9 : Memref sig .tc .vmem S1x4x1x128 .f32) (harg9 : arg9.IsWhole) (arg10 : Memref sig .tc .vmem S128x4096 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x4096 .bf16) (harg13 : arg13.IsWhole) (v3 v4 : IVec S128x128 32) (k : Fin k0_t1_loop.trips) (acc : Unit)
    (f1 : BufTy.Contents (Elt F) arg1.view.ty) (f2 : BufTy.Contents (Elt F) arg2.view.ty) (f3 : BufTy.Contents (Elt F) arg3.view.ty) (f13 : BufTy.Contents (Elt F) arg13.view.ty) :
    Σ' (L8 : List (View.Piece (Elt F) S1x4x1x128 .f32)) (L9 : List (View.Piece (Elt F) S1x4x1x128 .f32)) (L10 : BufTy.Contents (Elt F) arg10.view.ty → List (View.Piece (Elt F) S128x4096 .f32))
       (L7 : BufTy.Contents (Elt F) arg10.view.ty → List (View.Piece (Elt F) S1x4x1x4096 .f32)) (L6 : BufTy.Contents (Elt F) arg10.view.ty → List (View.Piece (Elt F) S4096x512 .fp8e4m3))
       (L5 : BufTy.Contents (Elt F) arg10.view.ty → BufTy.Contents (Elt F) arg12.view.ty → List (View.Piece (Elt F) S32x512 .f32)),
      { L4 : BufTy.Contents (Elt F) arg10.view.ty → BufTy.Contents (Elt F) arg12.view.ty → List (View.Piece (Elt F) S512x4096 .fp8e4m3) //
      ∀ (f4 : BufTy.Contents (Elt F) arg4.view.ty) (f5 : BufTy.Contents (Elt F) arg5.view.ty) (f6 : BufTy.Contents (Elt F) arg6.view.ty) (f7 : BufTy.Contents (Elt F) arg7.view.ty)
        (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty),
      iprop(held c arg1 f1 ∗ held c arg2 f2 ∗ held c arg3 f3 ∗ held c arg4 f4 ∗ held c arg5 f5 ∗ held c arg6 f6 ∗ held c arg7 f7 ∗ held c arg8 f8 ∗ held c arg9 f9
        ∗ held c arg10 f10 ∗ held c arg11 f11 ∗ held c arg12 f12 ∗ held c arg13 f13)
      ⊢ wp frame (wpE (defs₀ (F := F)) 𝒱₀ (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 v3 v4 k acc)
        (fun _ => iprop(held c arg1 f1 ∗ held c arg2 f2 ∗ held c arg3 f3 ∗ held c arg4 (arg4.view.writes (Elt F) f4 (L4 f10 f12)) ∗ held c arg5 (arg5.view.writes (Elt F) f5 (L5 f10 f12))
          ∗ held c arg6 (arg6.view.writes (Elt F) f6 (L6 f10)) ∗ held c arg7 (arg7.view.writes (Elt F) f7 (L7 f10))
          ∗ held c arg8 (arg8.view.writes (Elt F) f8 L8) ∗ held c arg9 (arg9.view.writes (Elt F) f9 L9)
          ∗ held c arg10 (arg10.view.writes (Elt F) f10 (L10 f10)) ∗ some' c arg11 ∗ some' c arg12 ∗ held c arg13 f13)) } := by
  refine ⟨?_, ?_, ?_, ?_, ?_, ?_, ?_, fun f4 f5 f6 f7 f8 f9 f10 f11 f12 => ?run⟩
  case run =>
    unfold k0_t1_body
    iintro ⟨H1, H2, H3, H4, H5, H6, H7, H8, H9, H10, H11, H12, H13⟩
    sl_exec
    sl_step
    sl_close

end Cert.Proof.Value

end
-- ==== Proof.Value.Ops.lean ====
/- The token loop's statistics as plain terms: the row mean, the centred tiles and the row's reciprocal deviation, and that the
   trip stores these. -/
module

public import proofs.«01_k».proof.Proof.Gen.KernelIdeal.Skeleton
public import proofs.«01_k».proof.Proof.Value.Trip

@[expose] public section

noncomputable section

namespace Cert.Proof.Value

open Cert.KernelIdeal Cert.KernelIdeal.Gen
open Idealize.ShloMosaic Idealize.ShloMosaic.TcCoe

variable {F : FTy → Type} [FloatOps F]

section Loads
variable (arg1 : Memref sig .tc .vmem S512x4096 .bf16) (k : Fin k0_t1_loop.trips) (f1 : BufTy.Contents (Elt F) arg1.view.ty)

/-- The offset of a slab's load in the slab. -/
theorem inb_ld (o : Fin 32) : ∀ a, (![0, 128 * o.val] : Fin 2 → Nat) a + S8x128.size a ≤ S8x4096.size a := by
  revert o; decide +kernel

/-- Lanes `128 o …` of rows `8 w …` of the trip's tokens. -/
def ld (w : Fin 16) (o : Fin 32) : Vec F S8x128 .bf16 :=
  View.readAt (Elt F) arg1.view ((Rect.unit (s := S512x4096) (k0_off1 k (BitVec.ofNat 32 (8 * w.val))) S8x4096.size (k0_off1_inb k w)).withinL
    (Rect.unit (s := S8x4096) ![0, 128 * o.val] S8x128.size (inb_ld o)).toLoadRect (fun _ => rfl)) f1

/-- The same, widened. -/
def ldf (w : Fin 16) (o : Fin 32) : FVec F S8x128 .f32 :=
  extf .f32 (shapeCast S8x128 (ld arg1 k f1 w o) shapeCasts_S8x128_S8x128) bitsLt_bf16_f32

/-- A slab's sum over the lane tiles: the even tiles and the odd tiles, each from the left. -/
def slab (w : Fin 16) : FVec F S8x128 .f32 :=
  addf (addf (addf (addf (addf (addf (addf (addf (addf (addf (addf (addf (addf (addf (addf (addf (ldf arg1 k f1 w 0) (ldf arg1 k f1 w 2)) (ldf arg1 k f1 w 4)) (ldf arg1 k f1 w 6)) (ldf arg1 k f1 w 8)) (ldf arg1 k f1 w 10)) (ldf arg1 k f1 w 12)) (ldf arg1 k f1 w 14)) (ldf arg1 k f1 w 16)) (ldf arg1 k f1 w 18)) (ldf arg1 k f1 w 20)) (ldf arg1 k f1 w 22)) (ldf arg1 k f1 w 24)) (ldf arg1 k f1 w 26)) (ldf arg1 k f1 w 28)) (ldf arg1 k f1 w 30)) (addf (addf (addf (addf (addf (addf (addf (addf (addf (addf (addf (addf (addf (addf (addf (ldf arg1 k f1 w 1) (ldf arg1 k f1 w 3)) (ldf arg1 k f1 w 5)) (ldf arg1 k f1 w 7)) (ldf arg1 k f1 w 9)) (ldf arg1 k f1 w 11)) (ldf arg1 k f1 w 13)) (ldf arg1 k f1 w 15)) (ldf arg1 k f1 w 17)) (ldf arg1 k f1 w 19)) (ldf arg1 k f1 w 21)) (ldf arg1 k f1 w 23)) (ldf arg1 k f1 w 25)) (ldf arg1 k f1 w 27)) (ldf arg1 k f1 w 29)) (ldf arg1 k f1 w 31))

theorem slab_0 : trip.sl.r_11 arg1 k f1 = slab arg1 k f1 0 := rfl
theorem slab_1 : trip.sl.r_23 arg1 k f1 = slab arg1 k f1 1 := rfl
theorem slab_2 : trip.sl.r_36 arg1 k f1 = slab arg1 k f1 2 := rfl
theorem slab_3 : trip.sl.r_49 arg1 k f1 = slab arg1 k f1 3 := rfl
theorem slab_4 : trip.sl.r_61 arg1 k f1 = slab arg1 k f1 4 := rfl
theorem slab_5 : trip.sl.r_73 arg1 k f1 = slab arg1 k f1 5 := rfl
theorem slab_6 : trip.sl.r_87 arg1 k f1 = slab arg1 k f1 6 := rfl
theorem slab_7 : trip.sl.r_100 arg1 k f1 = slab arg1 k f1 7 := rfl
theorem slab_8 : trip.sl.r_112 arg1 k f1 = slab arg1 k f1 8 := rfl
theorem slab_9 : trip.sl.r_124 arg1 k f1 = slab arg1 k f1 9 := rfl
theorem slab_10 : trip.sl.r_137 arg1 k f1 = slab arg1 k f1 10 := rfl
theorem slab_11 : trip.sl.r_150 arg1 k f1 = slab arg1 k f1 11 := rfl
theorem slab_12 : trip.sl.r_162 arg1 k f1 = slab arg1 k f1 12 := rfl
theorem slab_13 : trip.sl.r_175 arg1 k f1 = slab arg1 k f1 13 := rfl
theorem slab_14 : trip.sl.r_188 arg1 k f1 = slab arg1 k f1 14 := rfl

/-- The row means, one per row, in every lane. -/
def muV : FVec F S128x128 .f32 :=
  broadcastTo S128x128 (shapeCast S128x1 (mulf (shapeCast S128x1 (multiReduction .add [1] S128
    (concatenate S128x128 0 [⟨S8x128, slab arg1 k f1 0⟩, ⟨S8x128, slab arg1 k f1 1⟩, ⟨S8x128, slab arg1 k f1 2⟩, ⟨S8x128, slab arg1 k f1 3⟩, ⟨S8x128, slab arg1 k f1 4⟩, ⟨S8x128, slab arg1 k f1 5⟩, ⟨S8x128, slab arg1 k f1 6⟩, ⟨S8x128, slab arg1 k f1 7⟩, ⟨S8x128, slab arg1 k f1 8⟩, ⟨S8x128, slab arg1 k f1 9⟩, ⟨S8x128, slab arg1 k f1 10⟩, ⟨S8x128, slab arg1 k f1 11⟩, ⟨S8x128, slab arg1 k f1 12⟩, ⟨S8x128, slab arg1 k f1 13⟩, ⟨S8x128, slab arg1 k f1 14⟩, ⟨S8x128, slab arg1 k f1 15⟩] concatenates_S8x128_S8x128_S8x128_S8x128_S8x128_S8x128_S8x128_S8x128_S8x128_S8x128_S8x128_S8x128_S8x128_S8x128_S8x128_S8x128_S128x128_d0)
    0x00000000#32 reduces_S128x128_S128 (.inl rfl) rfl) shapeCasts_S128_S128x1) (broadcast S128x1 (Scalar.ofBits .f32 0x39800000#32))) shapeCasts_S128x1_S128x1) broadcasts_S128x1_S128x128

theorem r_201_eq : trip.sl.r_201 arg1 k f1 = muV arg1 k f1 := rfl

/-- Columns of the trip's tokens, 256 of them, at an offset. -/
def xl (off : Fin 2 → Nat) (inb : ∀ a, off a + S128x256.size a ≤ S512x4096.size a) : Vec F S128x256 .bf16 :=
  View.readAt (Elt F) arg1.view (Rect.unit (s := S512x4096) off S128x256.size inb).toLoadRect f1

/-- A centred tile: the identity beside the pieces of the mean, times the tile over the rows of minus ones. -/
def xcV (lhs : FVec F S128x256 .bf16) (v : Vec F S128x256 .bf16) : FVec F S128x256 .f32 := k0_pay239 k0_pay4 lhs v

/-- The squares of a tile's lower half and of its upper half. -/
def sqL (x : FVec F S128x256 .f32) : FVec F S128x128 .f32 :=
  mulf (extractStridedSlice S128x128 ![0, 0] x slices_S128x256_o0_0_S128x128) (extractStridedSlice S128x128 ![0, 0] x slices_S128x256_o0_0_S128x128)
def sqU (x : FVec F S128x256 .f32) : FVec F S128x128 .f32 :=
  mulf (extractStridedSlice S128x128 ![0, 128] x slices_S128x256_o0_128_S128x128) (extractStridedSlice S128x128 ![0, 128] x slices_S128x256_o0_128_S128x128)

/-- The first ten of the sixteen bands of eight rows, added from the left. -/
def bands (t : FVec F S128x128 .f32) : FVec F S8x128 .f32 :=
  (addf (addf (addf (addf (addf (addf (addf (addf (addf (extractStridedSlice S8x128 ![0, 0] t slices_S128x128_o0_0_S8x128)
      (extractStridedSlice S8x128 ![8, 0] t slices_S128x128_o8_0_S8x128))
      (extractStridedSlice S8x128 ![16, 0] t slices_S128x128_o16_0_S8x128))
      (extractStridedSlice S8x128 ![24, 0] t slices_S128x128_o24_0_S8x128))
      (extractStridedSlice S8x128 ![32, 0] t slices_S128x128_o32_0_S8x128))
      (extractStridedSlice S8x128 ![40, 0] t slices_S128x128_o40_0_S8x128))
      (extractStridedSlice S8x128 ![48, 0] t slices_S128x128_o48_0_S8x128))
      (extractStridedSlice S8x128 ![56, 0] t slices_S128x128_o56_0_S8x128))
      (extractStridedSlice S8x128 ![64, 0] t slices_S128x128_o64_0_S8x128))
      (extractStridedSlice S8x128 ![72, 0] t slices_S128x128_o72_0_S8x128))

variable (v3 v4 : IVec S128x128 32)

/-- The left factor of the centring product. -/
def lhsV : FVec F S128x256 .bf16 := k0_pay202 v3 v4 k0_pay3 (muV arg1 k f1)

/-- The squares of the centred tiles, added lane by lane. -/
def accV : FVec F S128x128 .f32 :=
  (addf (addf (addf (addf (addf (addf (addf (addf (addf (addf (addf (addf (addf (addf (addf (addf (addf (addf (addf (addf (addf (addf (addf (addf (addf (addf (addf (addf (addf (addf (addf (sqL (xcV (lhsV arg1 k f1 v3 v4) (xl arg1 f1 (k0_off3 k) (k0_off3_inb k))))
      (sqU (xcV (lhsV arg1 k f1 v3 v4) (xl arg1 f1 (k0_off3 k) (k0_off3_inb k)))))
      (sqL (xcV (lhsV arg1 k f1 v3 v4) (xl arg1 f1 (k0_off4 k) (k0_off4_inb k)))))
      (sqU (xcV (lhsV arg1 k f1 v3 v4) (xl arg1 f1 (k0_off4 k) (k0_off4_inb k)))))
      (sqL (xcV (lhsV arg1 k f1 v3 v4) (xl arg1 f1 (k0_off5 k) (k0_off5_inb k)))))
      (sqU (xcV (lhsV arg1 k f1 v3 v4) (xl arg1 f1 (k0_off5 k) (k0_off5_inb k)))))
      (sqL (xcV (lhsV arg1 k f1 v3 v4) (xl arg1 f1 (k0_off6 k) (k0_off6_inb k)))))
      (sqU (xcV (lhsV arg1 k f1 v3 v4) (xl arg1 f1 (k0_off6 k) (k0_off6_inb k)))))
      (sqL (xcV (lhsV arg1 k f1 v3 v4) (xl arg1 f1 (k0_off7 k) (k0_off7_inb k)))))
      (sqU (xcV (lhsV arg1 k f1 v3 v4) (xl arg1 f1 (k0_off7 k) (k0_off7_inb k)))))
      (sqL (xcV (lhsV arg1 k f1 v3 v4) (xl arg1 f1 (k0_off8 k) (k0_off8_inb k)))))
      (sqU (xcV (lhsV arg1 k f1 v3 v4) (xl arg1 f1 (k0_off8 k) (k0_off8_inb k)))))
      (sqL (xcV (lhsV arg1 k f1 v3 v4) (xl arg1 f1 (k0_off9 k) (k0_off9_inb k)))))
      (sqU (xcV (lhsV arg1 k f1 v3 v4) (xl arg1 f1 (k0_off9 k) (k0_off9_inb k)))))
      (sqL (xcV (lhsV arg1 k f1 v3 v4) (xl arg1 f1 (k0_off10 k) (k0_off10_inb k)))))
      (sqU (xcV (lhsV arg1 k f1 v3 v4) (xl arg1 f1 (k0_off10 k) (k0_off10_inb k)))))
      (sqL (xcV (lhsV arg1 k f1 v3 v4) (xl arg1 f1 (k0_off11 k) (k0_off11_inb k)))))
      (sqU (xcV (lhsV arg1 k f1 v3 v4) (xl arg1 f1 (k0_off11 k) (k0_off11_inb k)))))
      (sqL (xcV (lhsV arg1 k f1 v3 v4) (xl arg1 f1 (k0_off12 k) (k0_off12_inb k)))))
      (sqU (xcV (lhsV arg1 k f1 v3 v4) (xl arg1 f1 (k0_off12 k) (k0_off12_inb k)))))
      (sqL (xcV (lhsV arg1 k f1 v3 v4) (xl arg1 f1 (k0_off13 k) (k0_off13_inb k)))))
      (sqU (xcV (lhsV arg1 k f1 v3 v4) (xl arg1 f1 (k0_off13 k) (k0_off13_inb k)))))
      (sqL (xcV (lhsV arg1 k f1 v3 v4) (xl arg1 f1 (k0_off14 k) (k0_off14_inb k)))))
      (sqU (xcV (lhsV arg1 k f1 v3 v4) (xl arg1 f1 (k0_off14 k) (k0_off14_inb k)))))
      (sqL (xcV (lhsV arg1 k f1 v3 v4) (xl arg1 f1 (k0_off15 k) (k0_off15_inb k)))))
      (sqU (xcV (lhsV arg1 k f1 v3 v4) (xl arg1 f1 (k0_off15 k) (k0_off15_inb k)))))
      (sqL (xcV (lhsV arg1 k f1 v3 v4) (xl arg1 f1 (k0_off16 k) (k0_off16_inb k)))))
      (sqU (xcV (lhsV arg1 k f1 v3 v4) (xl arg1 f1 (k0_off16 k) (k0_off16_inb k)))))
      (sqL (xcV (lhsV arg1 k f1 v3 v4) (xl arg1 f1 (k0_off17 k) (k0_off17_inb k)))))
      (sqU (xcV (lhsV arg1 k f1 v3 v4) (xl arg1 f1 (k0_off17 k) (k0_off17_inb k)))))
      (sqL (xcV (lhsV arg1 k f1 v3 v4) (xl arg1 f1 (k0_off18 k) (k0_off18_inb k)))))
      (sqU (xcV (lhsV arg1 k f1 v3 v4) (xl arg1 f1 (k0_off18 k) (k0_off18_inb k)))))

/-- The row of reciprocal deviations. -/
def sigV : FVec F S1x128 .f32 :=
  k0_pay246 (transpose S128x128 [1, 0] (accV arg1 k f1 v3 v4) transposes_S128x128_p1_0_S128x128)
    (bands (transpose S128x128 [1, 0] (accV arg1 k f1 v3 v4) transposes_S128x128_p1_0_S128x128))
    (extractStridedSlice S8x128 ![80, 0] (transpose S128x128 [1, 0] (accV arg1 k f1 v3 v4) transposes_S128x128_p1_0_S128x128) slices_S128x128_o80_0_S8x128)

/-- The row of means. -/
def muRow : FVec F S1x128 .f32 :=
  shapeCast S1x128 (multiReduction .add [0] S128 (select (cmpi .eq v3 v4) (muV arg1 k f1) (broadcast S128x128 (Scalar.ofBits .f32 0x00000000#32)))
    0x00000000#32 reduces_S128x128_S128_2 (.inl rfl) rfl) shapeCasts_S128_S1x128

theorem r_202_eq : trip.sl.r_202 arg1 v3 v4 k f1 = muRow arg1 k f1 v3 v4 := rfl
theorem r_203_eq : trip.sl.r_203 arg1 v3 v4 k f1 = lhsV arg1 k f1 v3 v4 := rfl
theorem r_216_eq : trip.sl.r_216 arg1 v3 v4 k f1
    = transpose S128x128 [1, 0] (accV arg1 k f1 v3 v4) transposes_S128x128_p1_0_S128x128 := rfl
theorem sig_eq : k0_pay247 (trip.sl.r_216 arg1 v3 v4 k f1) (trip.sl.r_217 arg1 v3 v4 k f1) (trip.sl.r_218 arg1 v3 v4 k f1)
    = shapeCast S1x1x1x128 (sigV arg1 k f1 v3 v4) shapeCasts_S1x128_S1x1x1x128 := rfl

end Loads

end Cert.Proof.Value

end
-- ==== Proof.Value.Tiles.lean ====
/- The trip's 32 lane groups as plain terms: the scaled rows, their largest magnitudes and the scales, group after group, and that
   the trip stores these. -/
module

public import proofs.«01_k».proof.Proof.Value.Ops

@[expose] public section

noncomputable section

namespace Cert.Proof.Value

open Cert.KernelIdeal Cert.KernelIdeal.Gen
open Idealize.ShloMosaic Idealize.ShloMosaic.TcCoe

variable {F : FTy → Type} [FloatOps F]

/-- One step of the search for a power of two: the candidate `p · w` where half of it is at most `v`, else `p`. -/
def lstep {s : Shape} (w : BitVec 32) (v p : FVec F s .f32) : FVec F s .f32 :=
  select (cmpf .ole (mulf (mulf p (broadcast s (Scalar.ofBits .f32 w))) (broadcast s (Scalar.ofBits .f32 0x3F000000#32))) v)
    (mulf p (broadcast s (Scalar.ofBits .f32 w))) p

/-- The search: nine steps from the least power. -/
def ladder {s : Shape} (v : FVec F s .f32) : FVec F s .f32 :=
  lstep 0x40000000#32 v (lstep 0x40800000#32 v (lstep 0x41800000#32 v (lstep 0x43800000#32 v (lstep 0x47800000#32 v (lstep 0x4F000000#32 v
    (lstep 0x5F000000#32 v (lstep 0x5F800000#32 v (lstep 0x5F800000#32 v (broadcast s (Scalar.ofBits .f32 0x00800000#32))))))))))

/-- The scales of largest magnitudes. -/
def scaleV {s : Shape} (a : FVec F s .f32) : FVec F s .f32 :=
  select (cmpf .oeq a (broadcast s (Scalar.ofBits .f32 0x00000000#32))) (broadcast s (Scalar.ofBits .f32 0x3F800000#32))
    (ladder (mulf a (broadcast s (Scalar.ofBits .f32 0x3B124925#32))))

/-- A group's tile: the centred tile times the deviations times the gain, plus the shift. -/
def yOf (A R : FVec F S128x128 .f32) (g b : FVec F S1x128 .f32) : FVec F S128x128 .f32 :=
  addf (mulf (mulf A R) (broadcastTo S128x128 (shapeCast S1x128 g shapeCasts_S1x128_S1x128) broadcasts_S1x128_S128x128))
    (broadcastTo S128x128 (shapeCast S1x128 b shapeCasts_S1x128_S1x128) broadcasts_S1x128_S128x128)

/-- The largest magnitudes of a tile's columns, and of its rows. -/
def caOf (y : FVec F S128x128 .f32) : FVec F S1x128 .f32 :=
  shapeCast S1x128 (multiReduction .maximumf [0] S128 (absf y) 0xFF800000#32 reduces_S128x128_S128_2 (.inl rfl) rfl) shapeCasts_S128_S1x128
def raOf (y : FVec F S128x128 .f32) : FVec F S128x1 .f32 :=
  shapeCast S128x1 (shapeCast S128x1 (multiReduction .maximumf [1] S128 (absf y) 0xFF800000#32 reduces_S128x128_S128 (.inl rfl) rfl)
    shapeCasts_S128_S128x1) shapeCasts_S128x1_S128x1

/-- The offsets of a group's stores of column scales. -/
def off7 (k : Fin k0_t1_loop.trips) (n : Nat) : Fin 4 → Nat := ![0, k0_off19 k 1, 0, n]

theorem inb_y (n : Nat) (h : n < 32) : ∀ a, (![0, 128 * n] : Fin 2 → Nat) a + S128x128.size a ≤ S128x4096.size a := by
  have : ∀ n : Fin 32, ∀ a, (![0, 128 * n.val] : Fin 2 → Nat) a + S128x128.size a ≤ S128x4096.size a := by decide +kernel
  exact this ⟨n, h⟩
theorem inb_g (n : Nat) (h : n < 32) : ∀ a, (![0, 128 * n] : Fin 2 → Nat) a + S1x128.size a ≤ S1x4096.size a := by
  have : ∀ n : Fin 32, ∀ a, (![0, 128 * n.val] : Fin 2 → Nat) a + S1x128.size a ≤ S1x4096.size a := by decide +kernel
  exact this ⟨n, h⟩
theorem inb_m (n : Nat) (h : n < 32) : ∀ a, (![0, n] : Fin 2 → Nat) a + S128x1.size a ≤ S128x128.size a := by
  have : ∀ n : Fin 32, ∀ a, (![0, n.val] : Fin 2 → Nat) a + S128x1.size a ≤ S128x128.size a := by decide +kernel
  exact this ⟨n, h⟩
theorem inb_7 (k : Fin k0_t1_loop.trips) (n : Nat) (h : n < 32) : ∀ a, off7 k (128 * n) a + S1x1x1x128.size a ≤ S1x4x1x4096.size a := by
  have : ∀ k : Fin k0_t1_loop.trips, ∀ n : Fin 32, ∀ a, off7 k (128 * n.val) a + S1x1x1x128.size a ≤ S1x4x1x4096.size a := by decide +kernel
  exact this k ⟨n, h⟩

section
variable (arg1 : Memref sig .tc .vmem S512x4096 .bf16) (arg2 : Memref sig .tc .vmem S1x4096 .f32) (arg3 : Memref sig .tc .vmem S1x4096 .f32)
  (arg10 : Memref sig .tc .vmem S128x4096 .f32) (arg11 : Memref sig .tc .vmem S128x128 .f32) (arg12 : Memref sig .tc .vmem S128x128 .f32)
  (v3 v4 : IVec S128x128 32) (k : Fin k0_t1_loop.trips)
  (f1 : BufTy.Contents (Elt F) arg1.view.ty) (f2 : BufTy.Contents (Elt F) arg2.view.ty) (f3 : BufTy.Contents (Elt F) arg3.view.ty)

/-- A group's tile from what the row buffer holds. -/
def yT (L : List (View.Piece (Elt F) S128x4096 .f32)) (n : Nat) (h : n < 32) : FVec F S128x128 .f32 :=
  yOf (arg10.view.readCov L (Rect.unit (s := S128x4096) ![0, 128 * n] S128x128.size (inb_y n h)).toLoadRect) (trip.sl.v2912 arg1 arg11 v3 v4 k f1)
    (View.readAt (Elt F) arg2.view (Rect.unit (s := S1x4096) ![0, 128 * n] S1x128.size (inb_g n h)).toLoadRect f2)
    (View.readAt (Elt F) arg3.view (Rect.unit (s := S1x4096) ![0, 128 * n] S1x128.size (inb_g n h)).toLoadRect f3)

/-- The stores into the row buffer up to group `n`: the centred tiles, then the groups' tiles over them. -/
def Hs : (n : Nat) → n ≤ 32 → List (View.Piece (Elt F) S128x4096 .f32)
  | 0, _ => trip.sl.H10_16 arg1 v3 v4 k f1
  | n + 1, h => ⟨Rect.unit (s := S128x4096) ![0, 128 * n] S128x128.size (inb_y n h),
      shapeCast S128x128 (yT arg1 arg2 arg3 arg10 arg11 v3 v4 k f1 f2 f3 (Hs n (Nat.le_of_succ_le h)) n h) shapeCasts_S128x128_S128x128⟩ :: Hs n (Nat.le_of_succ_le h)

/-- Group `n`'s tile. -/
def yG (n : Nat) (h : n < 32) : FVec F S128x128 .f32 :=
  yT arg1 arg2 arg3 arg10 arg11 v3 v4 k f1 f2 f3 (Hs arg1 arg2 arg3 arg10 arg11 v3 v4 k f1 f2 f3 n (Nat.le_of_succ_le h)) n h

/-- The stores of the column scales up to group `n`. -/
def Ls : (n : Nat) → n ≤ 32 → List (View.Piece (Elt F) S1x4x1x4096 .f32)
  | 0, _ => []
  | n + 1, h => ⟨Rect.unit (s := S1x4x1x4096) (off7 k (128 * n)) S1x1x1x128.size (inb_7 k n h),
      shapeCast S1x1x1x128 (scaleV (caOf (yG arg1 arg2 arg3 arg10 arg11 v3 v4 k f1 f2 f3 n h))) shapeCasts_S1x128_S1x1x1x128⟩ :: Ls n (Nat.le_of_succ_le h)

/-- The stores of the rows' largest magnitudes up to group `n`. -/
def Ms : (n : Nat) → n ≤ 32 → List (View.Piece (Elt F) S128x128 .f32)
  | 0, _ => []
  | n + 1, h => ⟨Rect.unit (s := S128x128) ![0, n] S128x1.size (inb_m n h),
      raOf (yG arg1 arg2 arg3 arg10 arg11 v3 v4 k f1 f2 f3 n h)⟩ :: Ms n (Nat.le_of_succ_le h)

theorem h17 : trip.sl.H10_17 arg1 arg2 arg3 arg10 arg11 v3 v4 k f1 f2 f3 = Hs arg1 arg2 arg3 arg10 arg11 v3 v4 k f1 f2 f3 1 (by decide) := rfl
theorem h48 : trip.sl.H10_48 arg1 arg2 arg3 arg10 arg11 v3 v4 k f1 f2 f3 = Hs arg1 arg2 arg3 arg10 arg11 v3 v4 k f1 f2 f3 32 (by decide) := rfl
theorem m32 : trip.sl.H12_32 arg1 arg2 arg3 arg10 arg11 v3 v4 k f1 f2 f3 = Ms arg1 arg2 arg3 arg10 arg11 v3 v4 k f1 f2 f3 32 (by decide) := rfl
end

end Cert.Proof.Value

end
-- ==== Proof.Value.Stores.lean ====
/- What a trip stores as scales, as the plain lists. -/
module

public import proofs.«01_k».proof.Proof.Value.Tiles

@[expose] public section

noncomputable section

namespace Cert.Proof.Value

open Cert.KernelIdeal Cert.KernelIdeal.Gen
open Idealize.ShloMosaic Idealize.ShloMosaic.TcCoe

variable {F : FTy → Type} [FloatOps F]

section
variable (c : Dev nD) (i : grid0.Coords) (arg1 : Memref sig .tc .vmem S512x4096 .bf16) (harg1 : arg1.IsWhole) (arg2 : Memref sig .tc .vmem S1x4096 .f32) (harg2 : arg2.IsWhole) (arg3 : Memref sig .tc .vmem S1x4096 .f32) (harg3 : arg3.IsWhole) (arg4 : Memref sig .tc .vmem S512x4096 .fp8e4m3) (harg4 : arg4.IsWhole) (arg5 : Memref sig .tc .vmem S32x512 .f32) (harg5 : arg5.IsWhole) (arg6 : Memref sig .tc .vmem S4096x512 .fp8e4m3) (harg6 : arg6.IsWhole) (arg7 : Memref sig .tc .vmem S1x4x1x4096 .f32) (harg7 : arg7.IsWhole) (arg8 : Memref sig .tc .vmem S1x4x1x128 .f32) (harg8 : arg8.IsWhole) (arg9 : Memref sig .tc .vmem S1x4x1x128 .f32) (harg9 : arg9.IsWhole) (arg10 : Memref sig .tc .vmem S128x4096 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x4096 .bf16) (harg13 : arg13.IsWhole)
  (v3 v4 : IVec S128x128 32) (k : Fin k0_t1_loop.trips) (acc : Unit)
  (f1 : BufTy.Contents (Elt F) arg1.view.ty) (f2 : BufTy.Contents (Elt F) arg2.view.ty) (f3 : BufTy.Contents (Elt F) arg3.view.ty)
  (f13 : BufTy.Contents (Elt F) arg13.view.ty) (f10 : BufTy.Contents (Elt F) arg10.view.ty) (f12 : BufTy.Contents (Elt F) arg12.view.ty)

theorem inb_whole : ∀ a, (![0, 0] : Fin 2 → Nat) a + S128x128.size a ≤ S128x128.size a := by decide +kernel

/-- The row scales a trip stores: those of the buffer of largest magnitudes, transposed, the first 32 rows. -/
def rsOf (A : FVec F S128x128 .f32) : FVec F S32x128 .f32 :=
  extractStridedSlice S32x128 ![0, 0] (transpose S128x128 [1, 0] (scaleV A) transposes_S128x128_p1_0_S128x128) slices_S128x128_o0_0_S32x128

theorem inb_c (j : Fin 16) : ∀ a, (![0, 256 * j.val] : Fin 2 → Nat) a + S128x256.size a ≤ S128x4096.size a := by revert j; decide +kernel

/-- The store of a centred pair of groups. -/
def cp (j : Fin 16) (off : Fin 2 → Nat) (inb : ∀ a, off a + S128x256.size a ≤ S512x4096.size a) : View.Piece (Elt F) S128x4096 .f32 :=
  ⟨Rect.unit (s := S128x4096) ![0, 256 * j.val] S128x256.size (inb_c j), shapeCast S128x256 (xcV (lhsV arg1 k f1 v3 v4) (xl arg1 f1 off inb)) shapeCasts_S128x256_S128x256⟩

theorem h16 : trip.sl.H10_16 arg1 v3 v4 k f1 = [cp arg1 v3 v4 k f1 15 (k0_off18 k) (k0_off18_inb k),
    cp arg1 v3 v4 k f1 14 (k0_off17 k) (k0_off17_inb k),
    cp arg1 v3 v4 k f1 13 (k0_off16 k) (k0_off16_inb k),
    cp arg1 v3 v4 k f1 12 (k0_off15 k) (k0_off15_inb k),
    cp arg1 v3 v4 k f1 11 (k0_off14 k) (k0_off14_inb k),
    cp arg1 v3 v4 k f1 10 (k0_off13 k) (k0_off13_inb k),
    cp arg1 v3 v4 k f1 9 (k0_off12 k) (k0_off12_inb k),
    cp arg1 v3 v4 k f1 8 (k0_off11 k) (k0_off11_inb k),
    cp arg1 v3 v4 k f1 7 (k0_off10 k) (k0_off10_inb k),
    cp arg1 v3 v4 k f1 6 (k0_off9 k) (k0_off9_inb k),
    cp arg1 v3 v4 k f1 5 (k0_off8 k) (k0_off8_inb k),
    cp arg1 v3 v4 k f1 4 (k0_off7 k) (k0_off7_inb k),
    cp arg1 v3 v4 k f1 3 (k0_off6 k) (k0_off6_inb k),
    cp arg1 v3 v4 k f1 2 (k0_off5 k) (k0_off5_inb k),
    cp arg1 v3 v4 k f1 1 (k0_off4 k) (k0_off4_inb k),
    cp arg1 v3 v4 k f1 0 (k0_off3 k) (k0_off3_inb k)] := rfl

theorem l7_eq : (trip c i arg1 harg1 arg2 harg2 arg3 harg3 arg4 harg4 arg5 harg5 arg6 harg6 arg7 harg7 arg8 harg8 arg9 harg9 arg10 harg10 arg11 harg11 arg12 harg12 arg13 harg13 v3 v4 k acc f1 f2 f3 f13).2.2.2.1 f10
    = Ls arg1 arg2 arg3 arg10 arg11 v3 v4 k f1 f2 f3 32 (by decide) := rfl
theorem l5_eq : (trip c i arg1 harg1 arg2 harg2 arg3 harg3 arg4 harg4 arg5 harg5 arg6 harg6 arg7 harg7 arg8 harg8 arg9 harg9 arg10 harg10 arg11 harg11 arg12 harg12 arg13 harg13 v3 v4 k acc f1 f2 f3 f13).2.2.2.2.2.1 f10 f12
    = [⟨Rect.unit (s := S32x512) (k0_off83 k) S32x128.size (k0_off83_inb k), rsOf (View.readAt (Elt F) arg12.view (Rect.unit (s := S128x128) ![0, 0] S128x128.size inb_whole).toLoadRect
        (arg12.view.writes (Elt F) f12 (Ms arg1 arg2 arg3 arg10 arg11 v3 v4 k f1 f2 f3 32 (by decide))))⟩] := rfl
end

end Cert.Proof.Value

end
-- ==== Proof.Value.Means.lean ====
/- The row means read at an index, over the reals. -/
module

public import proofs.«01_k».proof.Proof.Value.Ops
public import Idealize.ShloMosaic.Lib.Pointwise
public import Idealize.ShloMosaic.PureOps.Ideal.Laws

@[expose] public section

noncomputable section

namespace Cert.Proof.Value

open Cert.KernelIdeal Cert.KernelIdeal.Gen
open Idealize.ShloMosaic Idealize.ShloMosaic.TcCoe

/-- A sum over thirty-two terms, the even ones and the odd ones added apart. -/
theorem sum32 (f : Fin 32 → EReal) :
    (((((((((((((((f 0 + f 2) + f 4) + f 6) + f 8) + f 10) + f 12) + f 14) + f 16) + f 18) + f 20) + f 22) + f 24) + f 26) + f 28) + f 30)
      + (((((((((((((((f 1 + f 3) + f 5) + f 7) + f 9) + f 11) + f 13) + f 15) + f 17) + f 19) + f 21) + f 23) + f 25) + f 27) + f 29) + f 31) = ∑ o, f o := by
  have e : ∑ o, f o = f 0 + (f 1 + (f 2 + (f 3 + (f 4 + (f 5 + (f 6 + (f 7 + (f 8 + (f 9 + (f 10 + (f 11 + (f 12 + (f 13 + (f 14 + (f 15 + (f 16 + (f 17 + (f 18 + (f 19 + (f 20 + (f 21 + (f 22 + (f 23 + (f 24 + (f 25 + (f 26 + (f 27 + (f 28 + (f 29 + (f 30 + (f 31))))))))))))))))))))))))))))))) := by
    simp only [Fin.sum_univ_succ, Fin.sum_univ_zero, add_zero]; rfl
  rw [e]; abel

/-- A sum over the columns, by lane and then by tile. -/
theorem sum_lanes (g : Fin 4096 → EReal) :
    ∑ l : Fin 128, ∑ o : Fin 32, g ⟨128 * o.val + l.val, by omega⟩ = ∑ c, g c := by
  rw [Finset.sum_comm, ← Equiv.sum_comp (finProdFinEquiv (m := 32) (n := 128)) g, Fintype.sum_prod_type]
  refine Finset.sum_congr rfl fun o _ => Finset.sum_congr rfl fun l _ => congrArg g (Fin.ext ?_)
  show 128 * o.val + l.val = l.val + 128 * o.val
  omega

section
variable (arg1 : Memref sig .tc .vmem S512x4096 .bf16) (k : Fin k0_t1_loop.trips) (f1 : BufTy.Contents (Elt Ideal) arg1.view.ty)

theorem k_lt : k.val < 4 := k.isLt

/-- Row `r` of the trip's tokens, column `c`. -/
def Xk (r : Fin 128) (c : Fin 4096) : EReal := arg1.view.read (Elt Ideal) f1 (ix2 ⟨128 * k.val + r.val, by have := k_lt k; omega⟩ c)

theorem off1_row (w : Fin 16) : k0_off1 k (BitVec.ofNat 32 (8 * w.val)) 0 = 128 * k.val + 8 * w.val := by
  revert k w; decide +kernel
theorem off1_col (w : Fin 16) : k0_off1 k (BitVec.ofNat 32 (8 * w.val)) 1 = 0 := by
  revert k w; decide +kernel

theorem ldf_apply (w : Fin 16) (o : Fin 32) (i : Fin 8) (l : Fin 128) :
    ldf (F := Ideal) arg1 k f1 w o (ix2 i l) = Xk arg1 k f1 ⟨8 * w.val + i.val, by omega⟩ ⟨128 * o.val + l.val, by omega⟩ := by
  unfold ldf
  rw [shapeCast_id]
  show ld (F := Ideal) arg1 k f1 w o (ix2 i l) = _
  unfold ld Xk
  refine Eq.trans (View.readAt_apply (v := arg1.view) _ f1 _) (congrArg _ (Eq.trans (Rect.idx_withinL _ _ _ _) (funext fun a => Fin.ext ?_)))
  have h0 := off1_row k w
  have h1 := off1_col k w
  match a with
  | ⟨0, _⟩ => show k0_off1 k (BitVec.ofNat 32 (8 * w.val)) 0 + 1 * (0 + 1 * i.val) = 128 * k.val + (8 * w.val + i.val); omega
  | ⟨1, _⟩ => show k0_off1 k (BitVec.ofNat 32 (8 * w.val)) 1 + 1 * (128 * o.val + 1 * l.val) = 128 * o.val + l.val; omega

theorem slab_apply (w : Fin 16) (i : Fin 8) (l : Fin 128) :
    slab (F := Ideal) arg1 k f1 w (ix2 i l)
      = ∑ o : Fin 32, Xk arg1 k f1 ⟨8 * w.val + i.val, by omega⟩ ⟨128 * o.val + l.val, by omega⟩ := by
  rw [← sum32]
  simp only [← ldf_apply]
  rfl

/-- Bands left to walk from band `w` on: at row offset `c` within them they give `v`. -/
def Good (r l : Fin 128) (v : EReal) (xs : List ((s : Shape) × (s.Idx → EReal))) (w : Nat) : Prop :=
  ∀ hs c hc, 8 * w + c = r.val → concatenateAt S128x128 0 (ix2 r l) xs hs c hc = v

theorem good_cons {r l : Fin 128} {v : EReal} {x : S8x128.Idx → EReal} {q xs} {w : Nat}
    (hx : ∀ y : S8x128.Idx, 8 * w + (y 0).val = r.val → (y 1).val = l.val → x y = v) (hq : Good r l v (q :: xs) (w + 1)) :
    Good r l v (⟨S8x128, x⟩ :: q :: xs) w := by
  intro hs c hc h
  rw [concatenateAt_cons]
  split
  · exact hx _ h rfl
  · rename_i hlt
    have h8 : ¬ c < 8 := hlt
    exact hq _ _ _ (by show 8 * (w + 1) + (c - 8) = r.val; omega)

theorem good_nil {r l : Fin 128} {v : EReal} {x : S8x128.Idx → EReal} {w : Nat}
    (hx : ∀ y : S8x128.Idx, 8 * w + (y 0).val = r.val → (y 1).val = l.val → x y = v) : Good r l v [⟨S8x128, x⟩] w := by
  intro hs c hc h
  rw [concatenateAt_singleton]
  exact hx _ h rfl

theorem band_key (s : Fin 16 → FVec Ideal S8x128 .f32) (r l : Fin 128) (w : Fin 16) (y : S8x128.Idx)
    (h0 : 8 * w.val + (y 0).val = r.val) (h1 : (y 1).val = l.val) :
    s w y = s ⟨r.val / 8, by omega⟩ (ix2 ⟨r.val % 8, by omega⟩ l) := by
  have hy : (y 0).val < 8 := (y 0).isLt
  have hw : w = ⟨r.val / 8, by omega⟩ := Fin.ext (by show w.val = r.val / 8; omega)
  have hy : y = ix2 ⟨r.val % 8, by omega⟩ l := funext fun a => Fin.ext (by
    match a with
    | ⟨0, _⟩ => show (y 0).val = r.val % 8; omega
    | ⟨1, _⟩ => exact h1)
  exact congr (congrArg s hw) hy

/-- Sixteen bands of eight rows under one another: row `r` is row `r % 8` of band `r / 8`. -/
theorem cat16 (s : Fin 16 → FVec Ideal S8x128 .f32) (r l : Fin 128) :
    concatenate S128x128 0 [⟨S8x128, s 0⟩, ⟨S8x128, s 1⟩, ⟨S8x128, s 2⟩, ⟨S8x128, s 3⟩, ⟨S8x128, s 4⟩, ⟨S8x128, s 5⟩, ⟨S8x128, s 6⟩, ⟨S8x128, s 7⟩, ⟨S8x128, s 8⟩, ⟨S8x128, s 9⟩, ⟨S8x128, s 10⟩, ⟨S8x128, s 11⟩, ⟨S8x128, s 12⟩, ⟨S8x128, s 13⟩, ⟨S8x128, s 14⟩, ⟨S8x128, s 15⟩] concatenates_S8x128_S8x128_S8x128_S8x128_S8x128_S8x128_S8x128_S8x128_S8x128_S8x128_S8x128_S8x128_S8x128_S8x128_S8x128_S8x128_S128x128_d0 (ix2 r l) = s ⟨r.val / 8, by omega⟩ (ix2 ⟨r.val % 8, by omega⟩ l) := by
  rw [concatenate_cons_apply]
  have key := band_key s r l
  refine (?_ : Good r l _ _ 0) _ _ _ (Nat.zero_add _)
  exact good_cons (key 0) (good_cons (key 1) (good_cons (key 2) (good_cons (key 3) (good_cons (key 4) (good_cons (key 5) (good_cons (key 6) (good_cons (key 7) (good_cons (key 8) (good_cons (key 9) (good_cons (key 10) (good_cons (key 11) (good_cons (key 12) (good_cons (key 13) (good_cons (key 14) (good_nil (key 15))))))))))))))))

theorem cat_apply (r l : Fin 128) :
    concatenate S128x128 0 [⟨S8x128, slab arg1 k f1 0⟩, ⟨S8x128, slab arg1 k f1 1⟩, ⟨S8x128, slab arg1 k f1 2⟩, ⟨S8x128, slab arg1 k f1 3⟩, ⟨S8x128, slab arg1 k f1 4⟩, ⟨S8x128, slab arg1 k f1 5⟩, ⟨S8x128, slab arg1 k f1 6⟩, ⟨S8x128, slab arg1 k f1 7⟩, ⟨S8x128, slab arg1 k f1 8⟩, ⟨S8x128, slab arg1 k f1 9⟩, ⟨S8x128, slab arg1 k f1 10⟩, ⟨S8x128, slab arg1 k f1 11⟩, ⟨S8x128, slab arg1 k f1 12⟩, ⟨S8x128, slab arg1 k f1 13⟩, ⟨S8x128, slab arg1 k f1 14⟩, ⟨S8x128, slab arg1 k f1 15⟩] concatenates_S8x128_S8x128_S8x128_S8x128_S8x128_S8x128_S8x128_S8x128_S8x128_S8x128_S8x128_S8x128_S8x128_S8x128_S8x128_S8x128_S128x128_d0 (ix2 r l)
      = ∑ o : Fin 32, Xk arg1 k f1 r ⟨128 * o.val + l.val, by omega⟩ := by
  rw [cat16 (slab arg1 k f1) r l, slab_apply]
  refine Finset.sum_congr rfl fun o _ => ?_
  congr 1
  exact Fin.ext (by show 8 * (r.val / 8) + r.val % 8 = r.val; omega)

theorem muV_apply (r l : Fin 128) :
    muV (F := Ideal) arg1 k f1 (ix2 r l) = (∑ c, Xk arg1 k f1 r c) * Ideal.ofBits .f32 0x39800000#32 := by
  unfold muV
  have hc := cat_apply arg1 k f1
  generalize concatenate S128x128 0 [⟨S8x128, slab arg1 k f1 0⟩, ⟨S8x128, slab arg1 k f1 1⟩, ⟨S8x128, slab arg1 k f1 2⟩, ⟨S8x128, slab arg1 k f1 3⟩, ⟨S8x128, slab arg1 k f1 4⟩, ⟨S8x128, slab arg1 k f1 5⟩, ⟨S8x128, slab arg1 k f1 6⟩, ⟨S8x128, slab arg1 k f1 7⟩, ⟨S8x128, slab arg1 k f1 8⟩, ⟨S8x128, slab arg1 k f1 9⟩, ⟨S8x128, slab arg1 k f1 10⟩, ⟨S8x128, slab arg1 k f1 11⟩, ⟨S8x128, slab arg1 k f1 12⟩, ⟨S8x128, slab arg1 k f1 13⟩, ⟨S8x128, slab arg1 k f1 14⟩, ⟨S8x128, slab arg1 k f1 15⟩] concatenates_S8x128_S8x128_S8x128_S8x128_S8x128_S8x128_S8x128_S8x128_S8x128_S8x128_S8x128_S8x128_S8x128_S8x128_S8x128_S8x128_S128x128_d0 = A at hc ⊢
  simp only [pointwise]
  exact congrArg (· * _) ((Finset.sum_congr rfl fun q _ => hc r q).trans (sum_lanes (Xk arg1 k f1 r)))
end

end Cert.Proof.Value

end
-- ==== Proof.Value.Centre.lean ====
/- The centred tiles and the row's reciprocal deviation read at an index, over the reals. -/
module

public import proofs.«01_k».proof.Proof.Value.Means

@[expose] public section

noncomputable section

namespace Cert.Proof.Value

open Cert.KernelIdeal Cert.KernelIdeal.Gen
open Idealize.ShloMosaic Idealize.ShloMosaic.TcCoe

/-- The row index and the column index, as the kernel's two counters. -/
abbrev w3 : IVec S128x128 32 := iota .tc S128x128 32 [0] iota_S128x128_d0_w32
abbrev w4 : IVec S128x128 32 := iota .tc S128x128 32 [1] iota_S128x128_d1_w32

/-- Two tiles side by side, read in the left one and in the right one. -/
theorem side_lo (x y : FVec Ideal S128x128 .bf16) (r kk : Fin 128) :
    concatenate S128x256 1 [⟨S128x128, x⟩, ⟨S128x128, y⟩] concatenates_S128x128_S128x128_S128x256_d1 (ix2 r ⟨kk.val, by omega⟩) = x (ix2 r kk) := by
  rw [concatenate_cons_apply, concatenateAt_cons]
  refine (dif_pos (show kk.val < 128 from kk.isLt)).trans (congrArg x (funext fun a => Fin.ext ?_))
  match a with
  | ⟨0, _⟩ => rfl
  | ⟨1, _⟩ => rfl
theorem side_hi (x y : FVec Ideal S128x128 .bf16) (r kk : Fin 128) :
    concatenate S128x256 1 [⟨S128x128, x⟩, ⟨S128x128, y⟩] concatenates_S128x128_S128x128_S128x256_d1 (ix2 r ⟨128 + kk.val, by omega⟩) = y (ix2 r kk) := by
  rw [concatenate_cons_apply, concatenateAt_cons]
  refine (dif_neg (show ¬ 128 + kk.val < 128 by omega)).trans ?_
  rw [concatenateAt_singleton]
  refine congrArg y (funext fun a => Fin.ext ?_)
  match a with
  | ⟨0, _⟩ => rfl
  | ⟨1, _⟩ => exact Nat.add_sub_cancel_left 128 kk.val

/-- Two tiles under one another, read in the upper one and in the lower one. -/
theorem stack_lo (x y : FVec Ideal S128x256 .bf16) (kk : Fin 128) (c : Fin 256) :
    concatenate S256x256 0 [⟨S128x256, x⟩, ⟨S128x256, y⟩] concatenates_S128x256_S128x256_S256x256_d0 (ix2 ⟨kk.val, by omega⟩ c) = x (ix2 kk c) := by
  rw [concatenate_cons_apply, concatenateAt_cons]
  refine (dif_pos (show kk.val < 128 from kk.isLt)).trans (congrArg x (funext fun a => Fin.ext ?_))
  match a with
  | ⟨0, _⟩ => rfl
  | ⟨1, _⟩ => rfl
theorem stack_hi (x y : FVec Ideal S128x256 .bf16) (kk : Fin 128) (c : Fin 256) :
    concatenate S256x256 0 [⟨S128x256, x⟩, ⟨S128x256, y⟩] concatenates_S128x256_S128x256_S256x256_d0 (ix2 ⟨128 + kk.val, by omega⟩ c) = y (ix2 kk c) := by
  rw [concatenate_cons_apply, concatenateAt_cons]
  refine (dif_neg (show ¬ 128 + kk.val < 128 by omega)).trans ?_
  rw [concatenateAt_singleton]
  refine congrArg y (funext fun a => Fin.ext ?_)
  match a with
  | ⟨0, _⟩ => exact Nat.add_sub_cancel_left 128 kk.val
  | ⟨1, _⟩ => rfl

/-- Where the pieces of a row's mean stand: the first four rows keep theirs from lane 64 on. -/
def sh (r : Fin 128) : Nat := if r.val < 4 then 64 else 0
/-- The bit that puts piece `q` of row `r` into lane `kk`, as the kernel computes it. -/
def pbit (q : BitVec 32) (r kk : Fin 128) : BitVec 1 :=
  IntOp.cmpi .eq (IntOp.subi (BitVec.ofNat 32 kk.val) (Scalar.select (IntOp.cmpi .slt (BitVec.ofNat 32 r.val) 4#32) 64#32 0#32)) q
theorem pbit0 (r kk : Fin 128) : pbit 0#32 r kk = if kk.val = sh r then 1#1 else 0#1 := by revert r kk; decide +kernel
theorem pbit1 (r kk : Fin 128) : pbit 1#32 r kk = if kk.val = sh r + 1 then 1#1 else 0#1 := by revert r kk; decide +kernel
theorem pbit2 (r kk : Fin 128) : pbit 2#32 r kk = if kk.val = sh r + 2 then 1#1 else 0#1 := by revert r kk; decide +kernel
theorem eqbit (r kk : Fin 128) : IntOp.cmpi .eq (BitVec.ofNat 32 r.val) (BitVec.ofNat 32 kk.val) = if kk = r then 1#1 else 0#1 := by
  revert r kk; decide +kernel
/-- The bit that makes row `kk` of the lower factor a row of minus ones. -/
def mbit (kk : Fin 128) : BitVec 1 :=
  IntOp.ori (IntOp.andi (IntOp.cmpi .sge (BitVec.ofNat 32 kk.val) 0#32) (IntOp.cmpi .slt (BitVec.ofNat 32 kk.val) 3#32))
    (IntOp.andi (IntOp.cmpi .sge (BitVec.ofNat 32 kk.val) 64#32) (IntOp.cmpi .slt (BitVec.ofNat 32 kk.val) 67#32))
theorem mbit_eq (r kk : Fin 128) (h : kk.val = sh r ∨ kk.val = sh r + 1 ∨ kk.val = sh r + 2) : mbit kk = 1#1 := by
  revert r kk; decide +kernel

theorem one_bits : Ideal.ofBits .f32 0x3F800000#32 = 1 := by
  simp [Ideal.ofBits, Ideal.ieee, -EReal.coe_mul]; norm_num
theorem neg_one_bits : Ideal.ofBits .f32 0xBF800000#32 = -1 := by
  simp [Ideal.ofBits, Ideal.ieee, -EReal.coe_mul]; norm_num
theorem zero_bits : Ideal.ofBits .f32 0#32 = 0 := by
  simp [Ideal.ofBits, Ideal.ieee, -EReal.coe_mul]

theorem select_ite {α : Type} (p : Prop) [Decidable p] (a b : α) : Scalar.select (if p then 1#1 else 0#1) a b = if p then a else b := by
  split <;> rfl

theorem pay3_apply (r kk : Fin 128) : k0_pay3 (F := Ideal) (ix2 r kk) = if kk = r then 1 else 0 := by
  have e : k0_pay3 (F := Ideal) (ix2 r kk) = Scalar.select (IntOp.cmpi .eq (BitVec.ofNat 32 r.val) (BitVec.ofNat 32 kk.val)) (1 : EReal) 0 := by
    unfold k0_pay3
    simp only [pointwise, List.foldl_cons, List.foldl_nil, Nat.zero_mul, Nat.zero_add]
  rw [e, eqbit, select_ite]

theorem pay4_apply (kk : Fin 128) (c : Fin 256) : k0_pay4 (F := Ideal) (ix2 kk c) = Scalar.select (mbit kk) (-1) 0 := by
  rw [← neg_one_bits]
  unfold k0_pay4
  simp only [pointwise, List.foldl_cons, List.foldl_nil, Nat.zero_mul, Nat.zero_add]
  rfl

section
variable (M : FVec Ideal S128x128 .f32) (r kk : Fin 128)

theorem lhs_lo : k0_pay202 (F := Ideal) w3 w4 k0_pay3 M (ix2 r ⟨kk.val, by omega⟩) = if kk = r then 1 else 0 :=
  (side_lo _ _ r kk).trans (pay3_apply r kk)

theorem lhs_hi : k0_pay202 (F := Ideal) w3 w4 k0_pay3 M (ix2 r ⟨128 + kk.val, by omega⟩)
    = if kk.val = sh r then M (ix2 r kk) else if kk.val = sh r + 1 then M (ix2 r kk) - M (ix2 r kk)
      else if kk.val = sh r + 2 then M (ix2 r kk) - M (ix2 r kk) - (M (ix2 r kk) - M (ix2 r kk)) else 0 := by
  refine (side_hi _ _ r kk).trans ?_
  simp only [pointwise, List.foldl_cons, List.foldl_nil, Nat.zero_mul, Nat.zero_add]
  rw [← select_ite (α := EReal), ← select_ite (α := EReal), ← select_ite (α := EReal), ← pbit0, ← pbit1, ← pbit2]
  rfl
end

theorem xcV_apply (L v : FVec Ideal S128x256 .bf16) (r : Fin 128) (c : Fin 256) :
    xcV (F := Ideal) L v (ix2 r c) = ∑ x : Fin 128, L (ix2 r ⟨x.val, by omega⟩) * v (ix2 x c)
      + ∑ x : Fin 128, L (ix2 r ⟨128 + x.val, by omega⟩) * k0_pay4 (F := Ideal) (ix2 x c) := by
  unfold xcV k0_pay239
  rw [shapeCast_id]
  have lo := stack_lo v k0_pay4
  have hi := stack_hi v k0_pay4
  generalize concatenate S256x256 0 [⟨S128x256, v⟩, ⟨S128x256, (k0_pay4 (F := Ideal))⟩] concatenates_S128x256_S128x256_S256x256_d0 = B at lo hi ⊢
  simp only [pointwise, zero_add]
  simp only [← lo, ← hi]
  exact Fin.sum_univ_add (a := 128) (b := 128) (fun k : Fin 256 => L (ix2 r k) * B (ix2 k c))

/-- The three pieces of a mean, subtracted, take the mean away: on a finite mean the last two are zero, on an infinite one they
    do not change the infinity. -/
theorem sub_pieces (v μ : EReal) : v + (-μ + -(μ - μ) + -(μ - μ - (μ - μ))) = v - μ := by
  induction μ with
  | bot => simp [sub_eq_add_neg]
  | top => simp [sub_eq_add_neg]
  | coe x =>
    have h : ((x : EReal) - x) = 0 := by rw [← EReal.coe_sub, sub_self]; rfl
    rw [h]; simp [sub_eq_add_neg]

theorem sum_three (r : Fin 128) (u0 u1 u2 : EReal) :
    ∑ x : Fin 128, (if x.val = sh r then u0 else if x.val = sh r + 1 then u1 else if x.val = sh r + 2 then u2 else 0) * Scalar.select (mbit x) (-1 : EReal) 0
      = -u0 + -u1 + -u2 := by
  have hs : sh r + 2 < 128 := by unfold sh; split <;> omega
  have key : ∀ x : Fin 128, (if x.val = sh r then u0 else if x.val = sh r + 1 then u1 else if x.val = sh r + 2 then u2 else 0) * Scalar.select (mbit x) (-1 : EReal) 0
      = (if x = ⟨sh r, by omega⟩ then -u0 else 0) + (if x = ⟨sh r + 1, by omega⟩ then -u1 else 0) + (if x = ⟨sh r + 2, by omega⟩ then -u2 else 0) := by
    intro x
    simp only [Fin.ext_iff]
    by_cases h0 : x.val = sh r
    · rw [mbit_eq r x (.inl h0)]; simp [h0, Scalar.select]
    · by_cases h1 : x.val = sh r + 1
      · rw [mbit_eq r x (.inr (.inl h1))]; simp [h1, Scalar.select]
      · by_cases h2 : x.val = sh r + 2
        · rw [mbit_eq r x (.inr (.inr h2))]; simp [h2, Scalar.select]
        · simp [h0, h1, h2]
  simp only [key, Finset.sum_add_distrib, Finset.sum_ite_eq', Finset.mem_univ, if_true]

section
variable (arg1 : Memref sig .tc .vmem S512x4096 .bf16) (k : Fin k0_t1_loop.trips) (f1 : BufTy.Contents (Elt Ideal) arg1.view.ty)

/-- The mean of row `r`. -/
def muK (r : Fin 128) : EReal := (∑ c, Xk arg1 k f1 r c) * Ideal.ofBits .f32 0x39800000#32
/-- The reciprocal deviation of row `r`. -/
def sigK (r : Fin 128) : EReal :=
  Ideal.rsqrt ((∑ c, (Xk arg1 k f1 r c - muK arg1 k f1 r) * (Xk arg1 k f1 r c - muK arg1 k f1 r)) * Ideal.ofBits .f32 0x39800000#32
    + Ideal.ofBits .f32 0x3727C5AC#32)

theorem centred (v : FVec Ideal S128x256 .bf16) (r : Fin 128) (c : Fin 256) :
    xcV (F := Ideal) (lhsV arg1 k f1 w3 w4) v (ix2 r c) = v (ix2 r c) - muK arg1 k f1 r := by
  unfold lhsV
  rw [xcV_apply]
  simp only [lhs_lo, lhs_hi, pay4_apply, muV_apply]
  rw [sum_three]
  simp only [ite_mul, one_mul, zero_mul, Finset.sum_ite_eq', Finset.mem_univ, if_true]
  exact sub_pieces _ _

theorem muRow_apply (l : Fin 128) : muRow (F := Ideal) arg1 k f1 w3 w4 (ix2 0 l) = muK arg1 k f1 l := by
  unfold muRow
  have hm := muV_apply arg1 k f1
  generalize muV arg1 k f1 = A at hm ⊢
  have e : ∑ r : Fin 128, Scalar.select (IntOp.cmpi .eq (BitVec.ofNat 32 r.val) (BitVec.ofNat 32 l.val)) (A (ix2 r l)) 0 = muK arg1 k f1 l := by
    simp only [eqbit, select_ite, hm, Finset.sum_ite_eq, Finset.mem_univ, if_true]
    rfl
  rw [← e]
  simp only [pointwise, List.foldl_cons, List.foldl_nil, Nat.zero_mul, Nat.zero_add]

theorem xl_apply (off : Fin 2 → Nat) (inb : ∀ a, off a + S128x256.size a ≤ S512x4096.size a) (j : Fin 16) (h : off = ![128 * k.val, 256 * j.val])
    (r : Fin 128) (c : Fin 256) : xl (F := Ideal) arg1 f1 off inb (ix2 r c) = Xk arg1 k f1 r ⟨256 * j.val + c.val, by omega⟩ := by
  subst h
  unfold xl Xk
  refine Eq.trans (View.readAt_apply (v := arg1.view) _ f1 _) (congrArg _ (funext fun a => Fin.ext ?_))
  match a with
  | ⟨0, _⟩ => show 128 * k.val + 1 * r.val = 128 * k.val + r.val; omega
  | ⟨1, _⟩ => show 256 * j.val + 1 * c.val = 256 * j.val + c.val; omega

/-- The square of the centred element in row `r`, lane `l` of lane tile `o`. -/
def D (r l : Fin 128) (o : Fin 32) : EReal :=
  (Xk arg1 k f1 r ⟨128 * o.val + l.val, by omega⟩ - muK arg1 k f1 r) * (Xk arg1 k f1 r ⟨128 * o.val + l.val, by omega⟩ - muK arg1 k f1 r)

theorem tile_lo (off : Fin 2 → Nat) (inb : ∀ a, off a + S128x256.size a ≤ S512x4096.size a) (j : Fin 16) (h : off = ![128 * k.val, 256 * j.val])
    (r l : Fin 128) : sqL (xcV (F := Ideal) (lhsV arg1 k f1 w3 w4) (xl arg1 f1 off inb)) (ix2 r l) = D arg1 k f1 r l ⟨2 * j.val, by omega⟩ := by
  have e : ∀ x : FVec Ideal S128x256 .f32, sqL (F := Ideal) x (ix2 r l) = x (ix2 r ⟨l.val, by omega⟩) * x (ix2 r ⟨l.val, by omega⟩) := by
    intro x; unfold sqL; simp only [pointwise, Matrix.cons_val_zero, Matrix.cons_val_one, Matrix.cons_val_fin_one, zero_add, Fin.eta]
  rw [e, centred, xl_apply arg1 k f1 off inb j h]
  have i : (⟨256 * j.val + l.val, by omega⟩ : Fin 4096) = ⟨128 * (2 * j.val) + l.val, by omega⟩ := Fin.ext (by show 256 * j.val + l.val = 128 * (2 * j.val) + l.val; omega)
  unfold D
  exact congrArg (fun c => (Xk arg1 k f1 r c - muK arg1 k f1 r) * (Xk arg1 k f1 r c - muK arg1 k f1 r)) i

theorem tile_hi (off : Fin 2 → Nat) (inb : ∀ a, off a + S128x256.size a ≤ S512x4096.size a) (j : Fin 16) (h : off = ![128 * k.val, 256 * j.val])
    (r l : Fin 128) : sqU (xcV (F := Ideal) (lhsV arg1 k f1 w3 w4) (xl arg1 f1 off inb)) (ix2 r l) = D arg1 k f1 r l ⟨2 * j.val + 1, by omega⟩ := by
  have e : ∀ x : FVec Ideal S128x256 .f32, sqU (F := Ideal) x (ix2 r l) = x (ix2 r ⟨128 + l.val, by omega⟩) * x (ix2 r ⟨128 + l.val, by omega⟩) := by
    intro x; unfold sqU; simp only [pointwise, Matrix.cons_val_zero, Matrix.cons_val_one, Matrix.cons_val_fin_one, zero_add, Fin.eta]
  rw [e, centred, xl_apply arg1 k f1 off inb j h]
  have i : (⟨256 * j.val + (128 + l.val), by omega⟩ : Fin 4096) = ⟨128 * (2 * j.val + 1) + l.val, by omega⟩ :=
    Fin.ext (by show 256 * j.val + (128 + l.val) = 128 * (2 * j.val + 1) + l.val; omega)
  unfold D
  exact congrArg (fun c => (Xk arg1 k f1 r c - muK arg1 k f1 r) * (Xk arg1 k f1 r c - muK arg1 k f1 r)) i

theorem off_0 : k0_off3 k = ![128 * k.val, 256 * 0] := by revert k; decide +kernel
theorem off_1 : k0_off4 k = ![128 * k.val, 256 * 1] := by revert k; decide +kernel
theorem off_2 : k0_off5 k = ![128 * k.val, 256 * 2] := by revert k; decide +kernel
theorem off_3 : k0_off6 k = ![128 * k.val, 256 * 3] := by revert k; decide +kernel
theorem off_4 : k0_off7 k = ![128 * k.val, 256 * 4] := by revert k; decide +kernel
theorem off_5 : k0_off8 k = ![128 * k.val, 256 * 5] := by revert k; decide +kernel
theorem off_6 : k0_off9 k = ![128 * k.val, 256 * 6] := by revert k; decide +kernel
theorem off_7 : k0_off10 k = ![128 * k.val, 256 * 7] := by revert k; decide +kernel
theorem off_8 : k0_off11 k = ![128 * k.val, 256 * 8] := by revert k; decide +kernel
theorem off_9 : k0_off12 k = ![128 * k.val, 256 * 9] := by revert k; decide +kernel
theorem off_10 : k0_off13 k = ![128 * k.val, 256 * 10] := by revert k; decide +kernel
theorem off_11 : k0_off14 k = ![128 * k.val, 256 * 11] := by revert k; decide +kernel
theorem off_12 : k0_off15 k = ![128 * k.val, 256 * 12] := by revert k; decide +kernel
theorem off_13 : k0_off16 k = ![128 * k.val, 256 * 13] := by revert k; decide +kernel
theorem off_14 : k0_off17 k = ![128 * k.val, 256 * 14] := by revert k; decide +kernel
theorem off_15 : k0_off18 k = ![128 * k.val, 256 * 15] := by revert k; decide +kernel

theorem chain32 (f : Fin 32 → EReal) : (((((((((((((((((((((((((((((((f 0 + f 1) + f 2) + f 3) + f 4) + f 5) + f 6) + f 7) + f 8) + f 9) + f 10) + f 11) + f 12) + f 13) + f 14) + f 15) + f 16) + f 17) + f 18) + f 19) + f 20) + f 21) + f 22) + f 23) + f 24) + f 25) + f 26) + f 27) + f 28) + f 29) + f 30) + f 31) = ∑ o, f o := by
  simp only [Fin.sum_univ_castSucc, Fin.sum_univ_zero, zero_add]; rfl
theorem chain16 (f : Fin 16 → EReal) : (((((((((((((((f 0 + f 1) + f 2) + f 3) + f 4) + f 5) + f 6) + f 7) + f 8) + f 9) + f 10) + f 11) + f 12) + f 13) + f 14) + f 15) = ∑ o, f o := by
  simp only [Fin.sum_univ_castSucc, Fin.sum_univ_zero, zero_add]; rfl

theorem accV_apply (r l : Fin 128) : accV (F := Ideal) arg1 k f1 w3 w4 (ix2 r l) = ∑ o : Fin 32, D arg1 k f1 r l o := by
  rw [← chain32]
  unfold accV
  simp only [pointwise]
  rw [tile_lo arg1 k f1 _ _ 0 (off_0 k) r l, tile_hi arg1 k f1 _ _ 0 (off_0 k) r l]
  rw [tile_lo arg1 k f1 _ _ 1 (off_1 k) r l, tile_hi arg1 k f1 _ _ 1 (off_1 k) r l]
  rw [tile_lo arg1 k f1 _ _ 2 (off_2 k) r l, tile_hi arg1 k f1 _ _ 2 (off_2 k) r l]
  rw [tile_lo arg1 k f1 _ _ 3 (off_3 k) r l, tile_hi arg1 k f1 _ _ 3 (off_3 k) r l]
  rw [tile_lo arg1 k f1 _ _ 4 (off_4 k) r l, tile_hi arg1 k f1 _ _ 4 (off_4 k) r l]
  rw [tile_lo arg1 k f1 _ _ 5 (off_5 k) r l, tile_hi arg1 k f1 _ _ 5 (off_5 k) r l]
  rw [tile_lo arg1 k f1 _ _ 6 (off_6 k) r l, tile_hi arg1 k f1 _ _ 6 (off_6 k) r l]
  rw [tile_lo arg1 k f1 _ _ 7 (off_7 k) r l, tile_hi arg1 k f1 _ _ 7 (off_7 k) r l]
  rw [tile_lo arg1 k f1 _ _ 8 (off_8 k) r l, tile_hi arg1 k f1 _ _ 8 (off_8 k) r l]
  rw [tile_lo arg1 k f1 _ _ 9 (off_9 k) r l, tile_hi arg1 k f1 _ _ 9 (off_9 k) r l]
  rw [tile_lo arg1 k f1 _ _ 10 (off_10 k) r l, tile_hi arg1 k f1 _ _ 10 (off_10 k) r l]
  rw [tile_lo arg1 k f1 _ _ 11 (off_11 k) r l, tile_hi arg1 k f1 _ _ 11 (off_11 k) r l]
  rw [tile_lo arg1 k f1 _ _ 12 (off_12 k) r l, tile_hi arg1 k f1 _ _ 12 (off_12 k) r l]
  rw [tile_lo arg1 k f1 _ _ 13 (off_13 k) r l, tile_hi arg1 k f1 _ _ 13 (off_13 k) r l]
  rw [tile_lo arg1 k f1 _ _ 14 (off_14 k) r l, tile_hi arg1 k f1 _ _ 14 (off_14 k) r l]
  rw [tile_lo arg1 k f1 _ _ 15 (off_15 k) r l, tile_hi arg1 k f1 _ _ 15 (off_15 k) r l]
  rfl

/-- A sum over the lanes, by the lane's place in its band of eight and then by band; the eight folded in halves. -/
theorem fold8 (g : Fin 8 → EReal) :
    ((g 0 + g 4) + (g 2 + g 6)) + ((g 1 + g 5) + (g 3 + g 7)) = ∑ j, g j := by
  simp only [Fin.sum_univ_succ, Fin.sum_univ_zero, add_zero]
  show _ = g 0 + (g 1 + (g 2 + (g 3 + (g 4 + (g 5 + (g 6 + g 7))))))
  abel
theorem sum_bands (g : Fin 128 → EReal) : ∑ j : Fin 8, ∑ m : Fin 16, g ⟨8 * m.val + j.val, by omega⟩ = ∑ c, g c := by
  rw [Finset.sum_comm, ← Equiv.sum_comp (finProdFinEquiv (m := 16) (n := 8)) g, Fintype.sum_prod_type]
  refine Finset.sum_congr rfl fun o _ => Finset.sum_congr rfl fun l _ => congrArg g (Fin.ext ?_)
  show 8 * o.val + l.val = l.val + 8 * o.val
  omega

theorem sigV_apply (r : Fin 128) : sigV (F := Ideal) arg1 k f1 w3 w4 (ix2 0 r) = sigK arg1 k f1 r := by
  have hs : ∑ l, accV (F := Ideal) arg1 k f1 w3 w4 (ix2 r l)
      = ∑ c, (Xk arg1 k f1 r c - muK arg1 k f1 r) * (Xk arg1 k f1 r c - muK arg1 k f1 r) := by
    simp only [accV_apply]
    exact sum_lanes (fun c => (Xk arg1 k f1 r c - muK arg1 k f1 r) * (Xk arg1 k f1 r c - muK arg1 k f1 r))
  unfold sigK sigV
  rw [← hs, ← sum_bands, ← fold8]
  simp only [← chain16]
  generalize accV (F := Ideal) arg1 k f1 w3 w4 = A
  unfold k0_pay246 bands
  simp only [pointwise, Matrix.cons_val_one, Matrix.cons_val_fin_one, zero_add, Fin.eta]
end

end Cert.Proof.Value
-- ==== Proof.Value.Scale.lean ====
/- A group's scale over the reals: the least power of two above a 448th of the group's largest magnitude, and that the kernel's
   search in nine steps finds it. -/
module

public import proofs.«01_k».proof.Proof.Value.Stores
public import proofs.«01_k».proof.Proof.Value.Centre
public import Idealize.ShloMosaic.PureOps.Ideal.Laws

@[expose] public section

noncomputable section

namespace Cert.Proof.Value

open Cert.KernelIdeal Cert.KernelIdeal.Gen
open Idealize.ShloMosaic Idealize.ShloMosaic.TcCoe

/-- The powers of two, from 2⁻¹²⁶. -/
def P (e : Nat) : EReal := (((2 : ℝ) ^ ((e : ℤ) - 126) : ℝ) : EReal)

/-- The largest magnitude of a group. -/
def amax (g : Fin 128 → EReal) : EReal :=
  (Finset.univ : Finset (Fin 128)).fold max (Ideal.ofBits .f32 0xFF800000#32) fun j => max (g j) (-(g j))
/-- The least of the powers 2⁻¹²⁶ … 2¹²⁷ above `v`, the last where none is. -/
def above (v : EReal) : EReal :=
  (Finset.univ : Finset (Fin 254)).fold min (Ideal.ofBits .f32 0x7F800000#32) fun e => if v < P e.val then P e.val else P 253
/-- A group's scale. -/
def scaleF (a : EReal) : EReal := if a = 0 then 1 else above (a * Ideal.ofBits .f32 0x3B124925#32)

theorem P_le {i j : Nat} (h : i ≤ j) : P i ≤ P j := by
  unfold P
  exact EReal.coe_le_coe_iff.mpr (zpow_le_zpow_right₀ (by norm_num) (by omega))
theorem P_mul (j b : Nat) : P j * (((2 : ℝ) ^ b : ℝ) : EReal) = P (j + b) := by
  unfold P
  rw [← EReal.coe_mul, ← zpow_natCast, ← zpow_add₀ (by norm_num)]
  congr 2; push_cast; ring
theorem P_half (j : Nat) : P (j + 1) * ((1 / 2 : ℝ) : EReal) = P j := by
  unfold P
  rw [← EReal.coe_mul]
  congr 1
  rw [show (((j + 1 : Nat) : ℤ) - 126) = ((j : ℤ) - 126) + 1 by push_cast; ring, zpow_add₀ (by norm_num), zpow_one]
  ring
theorem P_zero : Ideal.ofBits .f32 0x00800000#32 = P 0 := by
  unfold P
  simp [Ideal.ofBits, Ideal.ieee, -EReal.coe_mul]; norm_num
theorem half_bits : Ideal.ofBits .f32 0x3F000000#32 = ((1 / 2 : ℝ) : EReal) := by
  simp [Ideal.ofBits, Ideal.ieee, -EReal.coe_mul]; norm_num
theorem b64 : Ideal.ofBits .f32 0x5F800000#32 = (((2 : ℝ) ^ 64 : ℝ) : EReal) := by
  simp [Ideal.ofBits, Ideal.ieee, -EReal.coe_mul, -EReal.coe_pow]; norm_num
theorem b63 : Ideal.ofBits .f32 0x5F000000#32 = (((2 : ℝ) ^ 63 : ℝ) : EReal) := by
  simp [Ideal.ofBits, Ideal.ieee, -EReal.coe_mul, -EReal.coe_pow]; norm_num
theorem b31 : Ideal.ofBits .f32 0x4F000000#32 = (((2 : ℝ) ^ 31 : ℝ) : EReal) := by
  simp [Ideal.ofBits, Ideal.ieee, -EReal.coe_mul, -EReal.coe_pow]; norm_num
theorem b16 : Ideal.ofBits .f32 0x47800000#32 = (((2 : ℝ) ^ 16 : ℝ) : EReal) := by
  simp [Ideal.ofBits, Ideal.ieee, -EReal.coe_mul, -EReal.coe_pow]; norm_num
theorem b8 : Ideal.ofBits .f32 0x43800000#32 = (((2 : ℝ) ^ 8 : ℝ) : EReal) := by
  simp [Ideal.ofBits, Ideal.ieee, -EReal.coe_mul, -EReal.coe_pow]; norm_num
theorem b4 : Ideal.ofBits .f32 0x41800000#32 = (((2 : ℝ) ^ 4 : ℝ) : EReal) := by
  simp [Ideal.ofBits, Ideal.ieee, -EReal.coe_mul, -EReal.coe_pow]; norm_num
theorem b2 : Ideal.ofBits .f32 0x40800000#32 = (((2 : ℝ) ^ 2 : ℝ) : EReal) := by
  simp [Ideal.ofBits, Ideal.ieee, -EReal.coe_mul, -EReal.coe_pow]; norm_num
theorem b1 : Ideal.ofBits .f32 0x40000000#32 = (((2 : ℝ) ^ 1 : ℝ) : EReal) := by
  simp [Ideal.ofBits, Ideal.ieee, -EReal.coe_mul, -EReal.coe_pow]; norm_num

/-- What holds of the search's power with `n` doublings still to try. -/
def Inv (v : EReal) (n : Nat) (p : EReal) : Prop := ∃ j, p = P j ∧ (j = 0 ∨ P (j - 1) ≤ v) ∧ (v < P (j + n) ∨ j + n = 253) ∧ j + n ≤ 253

theorem select_dec {α : Type} (p : Prop) [Decidable p] (a b : α) : Scalar.select (BitVec.ofBool (decide p)) a b = if p then a else b := by
  by_cases h : p <;> simp [h, Scalar.select]

theorem inv_step {s : Shape} (w : BitVec 32) (b m : Nat) (hw : Ideal.ofBits .f32 w = (((2 : ℝ) ^ b : ℝ) : EReal)) (hb : 1 ≤ b) (hm : b - 1 ≤ m)
    (v p : FVec Ideal s .f32) (i : s.Idx) (h : Inv (v i) (b + m) (p i)) : Inv (v i) m (lstep w v p i) := by
  obtain ⟨j, hp, hl, hu, hn⟩ := h
  have e : lstep (F := Ideal) w v p i = if p i * Ideal.ofBits .f32 w * Ideal.ofBits .f32 0x3F000000#32 ≤ v i then p i * Ideal.ofBits .f32 w else p i := by
    rw [← select_dec (α := EReal)]
    rfl
  have hq : p i * Ideal.ofBits .f32 w = P (j + b) := by rw [hw, hp, P_mul]
  have hh : p i * Ideal.ofBits .f32 w * Ideal.ofBits .f32 0x3F000000#32 = P (j + b - 1) := by
    rw [hq, half_bits, ← P_half (j + b - 1), show j + b - 1 + 1 = j + b by omega]
  rw [e, hh, hq]
  by_cases hc : P (j + b - 1) ≤ v i
  · rw [if_pos hc]
    exact ⟨j + b, rfl, .inr hc, by rw [show j + b + m = j + (b + m) by omega]; exact hu, by omega⟩
  · rw [if_neg hc]
    exact ⟨j, hp, hl, .inl (lt_of_lt_of_le (not_le.mp hc) (P_le (by omega))), by omega⟩

theorem inv_above (v p : EReal) (h : Inv v 0 p) : p = above v := by
  obtain ⟨j, rfl, hl, hu, hj⟩ := h
  simp only [Nat.add_zero] at hu hj
  unfold above
  refine le_antisymm ((Finset.le_fold_min _).mpr ⟨?_, fun e _ => ?_⟩) ((Finset.fold_min_le _).mpr (.inr ⟨⟨j, by omega⟩, Finset.mem_univ _, ?_⟩))
  · rw [show Ideal.ofBits .f32 0x7F800000#32 = ⊤ by simp [Ideal.ofBits, Ideal.ieee]]; simp
  · split
    · rename_i he
      refine P_le ?_
      by_contra hc
      rcases hl with h0 | hl
      · omega
      · exact absurd he (not_lt.mpr ((P_le (by omega)).trans hl))
    · exact P_le hj
  · rcases hu with hu | hu
    · rw [if_pos hu]
    · subst hu
      split <;> exact le_refl _

theorem ladder_apply {s : Shape} (v : FVec Ideal s .f32) (i : s.Idx) : ladder v i = above (v i) := by
  refine inv_above _ _ ?_
  unfold ladder
  refine inv_step _ 1 0 b1 (by decide) (by decide) v _ i ?_
  refine inv_step _ 2 1 b2 (by decide) (by decide) v _ i ?_
  refine inv_step _ 4 3 b4 (by decide) (by decide) v _ i ?_
  refine inv_step _ 8 7 b8 (by decide) (by decide) v _ i ?_
  refine inv_step _ 16 15 b16 (by decide) (by decide) v _ i ?_
  refine inv_step _ 31 31 b31 (by decide) (by decide) v _ i ?_
  refine inv_step _ 63 62 b63 (by decide) (by decide) v _ i ?_
  refine inv_step _ 64 125 b64 (by decide) (by decide) v _ i ?_
  refine inv_step _ 64 189 b64 (by decide) (by decide) v _ i ?_
  exact ⟨0, P_zero, .inl rfl, .inr rfl, by decide⟩

theorem scaleV_apply {s : Shape} (a : FVec Ideal s .f32) (i : s.Idx) : scaleV a i = scaleF (a i) := by
  have e : scaleV (F := Ideal) a i = if a i = Ideal.ofBits .f32 0x00000000#32 then Ideal.ofBits .f32 0x3F800000#32
      else ladder (F := Ideal) (mulf a (broadcast s (Scalar.ofBits .f32 0x3B124925#32))) i := by
    rw [← select_dec (α := EReal)]
    rfl
  rw [e, ladder_apply, zero_bits, one_bits]
  rfl

end Cert.Proof.Value

end
-- ==== Proof.Value.Groups.lean ====
/- The trip's buffers read at an index, over the reals: the scaled rows, the largest magnitudes and the scales. -/
module

public import proofs.«01_k».proof.Proof.Value.Scale
public import Idealize.ShloMosaic.Lib.WritesUnit
public import Idealize.ShloMosaic.Lib.Pipeline.Value

@[expose] public section

noncomputable section

namespace Cert.Proof.Value

open Cert.KernelIdeal Cert.KernelIdeal.Gen
open Idealize.ShloMosaic Idealize.ShloMosaic.TcCoe

/-- A group's tile, its columns' largest magnitudes and its rows', at an index. -/
theorem yOf_apply (A R : FVec Ideal S128x128 .f32) (g b : FVec Ideal S1x128 .f32) (r l : Fin 128) :
    yOf A R g b (ix2 r l) = A (ix2 r l) * R (ix2 r l) * g (ix2 0 l) + b (ix2 0 l) := by
  unfold yOf
  simp only [pointwise]
  rfl
theorem caOf_apply (y : FVec Ideal S128x128 .f32) (l : Fin 128) : caOf y (ix2 0 l) = amax fun r => y (ix2 r l) := by
  unfold caOf amax
  refine (shapeCast_apply _ shapeCasts_S128_S1x128 (ix2 0 l) (ix1 l) ?_).trans ?_
  · simp [Shape.rowMajor_val_two, Shape.rowMajor_val_one]
  refine (Ideal.multiReduction_maximumf_single (absf y) _ reduces_S128x128_S128_2 _ _ _).trans ?_
  refine congrArg (Finset.fold max _ · Finset.univ) (funext fun r => ?_)
  have e : reduces_S128x128_S128_2.lift (ix1 l) r = ix2 r l := funext fun a => match a with
    | ⟨0, _⟩ => rfl
    | ⟨1, _⟩ => rfl
  exact congrArg (fun i => max (y i) (-(y i))) e
theorem raOf_apply (y : FVec Ideal S128x128 .f32) (r : Fin 128) : raOf y (ix2 r 0) = amax fun l => y (ix2 r l) := by
  unfold raOf amax
  refine (shapeCast_apply _ shapeCasts_S128x1_S128x1 (ix2 r 0) (ix2 r 0) rfl).trans ?_
  refine (shapeCast_apply _ shapeCasts_S128_S128x1 (ix2 r 0) (ix1 r) ?_).trans ?_
  · simp [Shape.rowMajor_val_two, Shape.rowMajor_val_one]
  refine (Ideal.multiReduction_maximumf_single (absf y) _ reduces_S128x128_S128 _ _ _).trans ?_
  refine congrArg (Finset.fold max _ · Finset.univ) (funext fun l => ?_)
  have e : reduces_S128x128_S128.lift (ix1 r) l = ix2 r l := funext fun a => match a with
    | ⟨0, _⟩ => rfl
    | ⟨1, _⟩ => rfl
  exact congrArg (fun i => max (y i) (-(y i))) e
theorem rsOf_apply (A : FVec Ideal S128x128 .f32) (c : Fin 32) (r : Fin 128) :
    rsOf A (ix2 c r) = scaleF (A (ix2 r ⟨c.val, by omega⟩)) := by
  rw [← scaleV_apply]
  unfold rsOf
  generalize scaleV A = B
  simp only [pointwise, Matrix.cons_val_zero, Matrix.cons_val_one, Matrix.cons_val_fin_one, zero_add, Fin.eta]

theorem off7_eq (k : Fin k0_t1_loop.trips) (n : Nat) : off7 k n = ![0, k.val, 0, n] := by
  have e : k0_off19 k 1 = k.val := by revert k; decide +kernel
  unfold off7
  rw [e]

section
variable (arg1 : Memref sig .tc .vmem S512x4096 .bf16) (arg2 : Memref sig .tc .vmem S1x4096 .f32) (arg3 : Memref sig .tc .vmem S1x4096 .f32)
  (arg10 : Memref sig .tc .vmem S128x4096 .f32) (arg11 : Memref sig .tc .vmem S128x128 .f32) (arg12 : Memref sig .tc .vmem S128x128 .f32)
  (k : Fin k0_t1_loop.trips)
  (f1 : BufTy.Contents (Elt Ideal) arg1.view.ty) (f2 : BufTy.Contents (Elt Ideal) arg2.view.ty) (f3 : BufTy.Contents (Elt Ideal) arg3.view.ty)

/-- A centred element, and a scaled one. -/
def XC (r : Fin 128) (c : Fin 4096) : EReal := Xk arg1 k f1 r c - muK arg1 k f1 r
def Yk (r : Fin 128) (c : Fin 4096) : EReal :=
  XC arg1 k f1 r c * sigK arg1 k f1 r * arg2.view.read (Elt Ideal) f2 (ix2 0 c) + arg3.view.read (Elt Ideal) f3 (ix2 0 c)

/-- The row buffer's first `256 · j` columns are centred. -/
def Base (L : List (View.Piece (Elt Ideal) S128x4096 .f32)) (j : Nat) : Prop :=
  ∀ (f : BufTy.Contents (Elt Ideal) arg10.view.ty) (r : Fin 128) (c : Fin 4096), c.val < 256 * j →
    arg10.view.read (Elt Ideal) (arg10.view.writes (Elt Ideal) f L) (ix2 r c) = XC arg1 k f1 r c

theorem base_zero : Base arg1 arg10 k f1 [] 0 := fun _ _ _ h => absurd h (Nat.not_lt_zero _)

theorem base_step (L : List (View.Piece (Elt Ideal) S128x4096 .f32)) (j : Fin 16) (off : Fin 2 → Nat) (inb : ∀ a, off a + S128x256.size a ≤ S512x4096.size a)
    (h : off = ![128 * k.val, 256 * j.val]) (hL : Base arg1 arg10 k f1 L j.val) :
    Base arg1 arg10 k f1 (cp arg1 w3 w4 k f1 j off inb :: L) (j.val + 1) := by
  intro f r c hc
  by_cases hlt : c.val < 256 * j.val
  · exact (View.read_writes_cons_unit_of_not_mem (e := .f32) arg10.view f (inb_c j) _ L (ix2 r c) rfl 1 (.inl hlt)).trans (hL f r c hlt)
  · refine (View.read_writes_cons_unit_of_mem (e := .f32) arg10.view f (inb_c j) _ L (ix2 r c) (ix2 r ⟨c.val - 256 * j.val, by omega⟩) rfl fun a => ?_).trans ?_
    · match a with
      | ⟨0, _⟩ => exact (Nat.zero_add r.val).symm
      | ⟨1, _⟩ => show c.val = 256 * j.val + (c.val - 256 * j.val); omega
    refine (shapeCast_apply _ shapeCasts_S128x256_S128x256 _ _ rfl).trans ?_
    rw [centred, xl_apply arg1 k f1 off inb j h]
    unfold XC
    refine congrArg (fun c => Xk arg1 k f1 r c - muK arg1 k f1 r) (Fin.ext ?_)
    show 256 * j.val + (c.val - 256 * j.val) = c.val
    omega

theorem base16 : Base arg1 arg10 k f1 (trip.sl.H10_16 arg1 w3 w4 k f1) 16 := by
  rw [h16]
  refine base_step arg1 arg10 k f1 _ 15 _ _ (off_15 k) ?_
  refine base_step arg1 arg10 k f1 _ 14 _ _ (off_14 k) ?_
  refine base_step arg1 arg10 k f1 _ 13 _ _ (off_13 k) ?_
  refine base_step arg1 arg10 k f1 _ 12 _ _ (off_12 k) ?_
  refine base_step arg1 arg10 k f1 _ 11 _ _ (off_11 k) ?_
  refine base_step arg1 arg10 k f1 _ 10 _ _ (off_10 k) ?_
  refine base_step arg1 arg10 k f1 _ 9 _ _ (off_9 k) ?_
  refine base_step arg1 arg10 k f1 _ 8 _ _ (off_8 k) ?_
  refine base_step arg1 arg10 k f1 _ 7 _ _ (off_7 k) ?_
  refine base_step arg1 arg10 k f1 _ 6 _ _ (off_6 k) ?_
  refine base_step arg1 arg10 k f1 _ 5 _ _ (off_5 k) ?_
  refine base_step arg1 arg10 k f1 _ 4 _ _ (off_4 k) ?_
  refine base_step arg1 arg10 k f1 _ 3 _ _ (off_3 k) ?_
  refine base_step arg1 arg10 k f1 _ 2 _ _ (off_2 k) ?_
  refine base_step arg1 arg10 k f1 _ 1 _ _ (off_1 k) ?_
  refine base_step arg1 arg10 k f1 _ 0 _ _ (off_0 k) ?_
  exact base_zero arg1 arg10 k f1

theorem sigTile (r l : Fin 128) : trip.sl.v2912 arg1 arg11 w3 w4 k f1 (ix2 r l) = sigK arg1 k f1 r := by
  have e : trip.sl.v2912 (F := Ideal) arg1 arg11 w3 w4 k f1
      = k0_pay248 (trip.sl.r_216 arg1 w3 w4 k f1) (trip.sl.r_217 arg1 w3 w4 k f1) (trip.sl.r_218 arg1 w3 w4 k f1) :=
    View.readCov_unit_zero arg11.view (by decide) _ _
  have e' : k0_pay248 (F := Ideal) (trip.sl.r_216 arg1 w3 w4 k f1) (trip.sl.r_217 arg1 w3 w4 k f1) (trip.sl.r_218 arg1 w3 w4 k f1)
      = shapeCast S128x128 (transpose S128x128 [1, 0] (broadcastTo S128x128 (shapeCast S1x128 (sigV arg1 k f1 w3 w4) shapeCasts_S1x128_S1x128) broadcasts_S1x128_S128x128)
          transposes_S128x128_p1_0_S128x128) shapeCasts_S128x128_S128x128 := rfl
  rw [e, e', ← sigV_apply]
  generalize sigV (F := Ideal) arg1 k f1 w3 w4 = A
  simp only [pointwise]
  rfl

/-- A group's tile read from a row buffer whose groups from this one on are centred. -/
theorem yT_apply (L : List (View.Piece (Elt Ideal) S128x4096 .f32)) (n : Nat) (h : n < 32)
    (hL : ∀ (f : BufTy.Contents (Elt Ideal) arg10.view.ty) (r : Fin 128) (c : Fin 4096),
      arg10.view.read (Elt Ideal) (arg10.view.writes (Elt Ideal) f L) (ix2 r c) = if c.val < 128 * n then Yk arg1 arg2 arg3 k f1 f2 f3 r c else XC arg1 k f1 r c)
    (r l : Fin 128) : yT arg1 arg2 arg3 arg10 arg11 w3 w4 k f1 f2 f3 L n h (ix2 r l) = Yk arg1 arg2 arg3 k f1 f2 f3 r ⟨128 * n + l.val, by omega⟩ := by
  unfold yT Yk
  rw [yOf_apply, sigTile]
  have ea : arg10.view.readCov L (Rect.unit (s := S128x4096) ![0, 128 * n] S128x128.size (inb_y n h)).toLoadRect (ix2 r l)
      = XC arg1 k f1 r ⟨128 * n + l.val, by omega⟩ := by
    refine Eq.trans (View.readAt_apply (v := arg10.view) _ _ _) (Eq.trans (congrArg _ (funext fun a => Fin.ext ?_))
      ((hL _ r ⟨128 * n + l.val, by omega⟩).trans (if_neg (by show ¬ 128 * n + l.val < 128 * n; omega))))
    match a with
    | ⟨0, _⟩ => show 0 + 1 * r.val = r.val; omega
    | ⟨1, _⟩ => show 128 * n + 1 * l.val = 128 * n + l.val; omega
  have eg : View.readAt (Elt Ideal) arg2.view (Rect.unit (s := S1x4096) ![0, 128 * n] S1x128.size (inb_g n h)).toLoadRect f2 (ix2 0 l)
      = arg2.view.read (Elt Ideal) f2 (ix2 0 ⟨128 * n + l.val, by omega⟩) := by
    refine Eq.trans (View.readAt_apply (v := arg2.view) _ _ _) (congrArg _ (funext fun a => Fin.ext ?_))
    match a with
    | ⟨0, _⟩ => rfl
    | ⟨1, _⟩ => show 128 * n + 1 * l.val = 128 * n + l.val; omega
  have eb : View.readAt (Elt Ideal) arg3.view (Rect.unit (s := S1x4096) ![0, 128 * n] S1x128.size (inb_g n h)).toLoadRect f3 (ix2 0 l)
      = arg3.view.read (Elt Ideal) f3 (ix2 0 ⟨128 * n + l.val, by omega⟩) := by
    refine Eq.trans (View.readAt_apply (v := arg3.view) _ _ _) (congrArg _ (funext fun a => Fin.ext ?_))
    match a with
    | ⟨0, _⟩ => rfl
    | ⟨1, _⟩ => show 128 * n + 1 * l.val = 128 * n + l.val; omega
  rw [ea, eg, eb]

/-- The row buffer before group `n`: the groups before it scaled, the others centred. -/
theorem hs_read (n : Nat) (h : n ≤ 32) : ∀ (f : BufTy.Contents (Elt Ideal) arg10.view.ty) (r : Fin 128) (c : Fin 4096),
    arg10.view.read (Elt Ideal) (arg10.view.writes (Elt Ideal) f (Hs arg1 arg2 arg3 arg10 arg11 w3 w4 k f1 f2 f3 n h)) (ix2 r c)
      = if c.val < 128 * n then Yk arg1 arg2 arg3 k f1 f2 f3 r c else XC arg1 k f1 r c := by
  induction n with
  | zero =>
    intro f r c
    rw [if_neg (by omega)]
    exact base16 arg1 arg10 k f1 f r c (by omega)
  | succ n ih =>
    intro f r c
    have ih := ih (Nat.le_of_succ_le h)
    by_cases hlt : c.val < 128 * n
    · refine (View.read_writes_cons_unit_of_not_mem (e := .f32) arg10.view f (inb_y n h) _ _ (ix2 r c) rfl 1 (.inl hlt)).trans ((ih f r c).trans ?_)
      rw [if_pos hlt, if_pos (by omega)]
    by_cases hge : 128 * n + 128 ≤ c.val
    · refine (View.read_writes_cons_unit_of_not_mem (e := .f32) arg10.view f (inb_y n h) _ _ (ix2 r c) rfl 1 (.inr hge)).trans ((ih f r c).trans ?_)
      rw [if_neg hlt, if_neg (by omega)]
    refine (View.read_writes_cons_unit_of_mem (e := .f32) arg10.view f (inb_y n h) _ _ (ix2 r c) (ix2 r ⟨c.val - 128 * n, by omega⟩) rfl fun a => ?_).trans ?_
    · match a with
      | ⟨0, _⟩ => exact (Nat.zero_add r.val).symm
      | ⟨1, _⟩ => show c.val = 128 * n + (c.val - 128 * n); omega
    rw [if_pos (by omega)]
    refine (shapeCast_apply _ shapeCasts_S128x128_S128x128 _ _ rfl).trans ?_
    refine (yT_apply arg1 arg2 arg3 arg10 arg11 k f1 f2 f3 _ n h ih r _).trans ?_
    refine congrArg (Yk arg1 arg2 arg3 k f1 f2 f3 r) (Fin.ext ?_)
    show 128 * n + (c.val - 128 * n) = c.val
    omega

/-- Group `n`'s tile. -/
theorem yG_apply (n : Nat) (h : n < 32) (r l : Fin 128) : yG arg1 arg2 arg3 arg10 arg11 w3 w4 k f1 f2 f3 n h (ix2 r l)
    = Yk arg1 arg2 arg3 k f1 f2 f3 r ⟨128 * n + l.val, by omega⟩ :=
  yT_apply arg1 arg2 arg3 arg10 arg11 k f1 f2 f3 _ n h (hs_read arg1 arg2 arg3 arg10 arg11 k f1 f2 f3 n _) r l

/-- The largest magnitudes of a column's 128 rows and of a row's group. -/
def cmK (c : Fin 4096) : EReal := amax fun r => Yk arg1 arg2 arg3 k f1 f2 f3 r c
def rmK (n : Nat) (h : n < 32) (r : Fin 128) : EReal := amax fun l => Yk arg1 arg2 arg3 k f1 f2 f3 r ⟨128 * n + l.val, by omega⟩

theorem ls_read (arg7 : Memref sig .tc .vmem S1x4x1x4096 .f32) (n : Nat) (h : n ≤ 32) (f : BufTy.Contents (Elt Ideal) arg7.view.ty) (b : Fin 4) (c : Fin 4096) :
    arg7.view.read (Elt Ideal) (arg7.view.writes (Elt Ideal) f (Ls arg1 arg2 arg3 arg10 arg11 w3 w4 k f1 f2 f3 n h)) (ix4 0 b 0 c)
      = if b.val = k.val ∧ c.val < 128 * n then scaleF (cmK arg1 arg2 arg3 k f1 f2 f3 c) else arg7.view.read (Elt Ideal) f (ix4 0 b 0 c) := by
  induction n with
  | zero => rw [if_neg (by omega)]; rfl
  | succ n ih =>
    have ih := ih (Nat.le_of_succ_le h)
    have ho : off7 k (128 * n) = ![0, k.val, 0, 128 * n] := off7_eq k _
    by_cases hin : b.val = k.val ∧ 128 * n ≤ c.val ∧ c.val < 128 * n + 128
    · refine (View.read_writes_cons_unit_of_mem (e := .f32) arg7.view f (inb_7 k n h) _ _ (ix4 0 b 0 c) (ix4 0 0 0 ⟨c.val - 128 * n, by omega⟩) ho fun a => ?_).trans ?_
      · match a with
        | ⟨0, _⟩ => rfl
        | ⟨1, _⟩ => exact hin.1
        | ⟨2, _⟩ => rfl
        | ⟨3, _⟩ => show c.val = 128 * n + (c.val - 128 * n); omega
      rw [if_pos (by omega)]
      refine (shapeCast_apply _ shapeCasts_S1x128_S1x1x1x128 _ (ix2 0 ⟨c.val - 128 * n, by omega⟩) ?_).trans ?_
      · simp [Shape.rowMajor_val_two, Shape.rowMajor_val_four]
      rw [scaleV_apply, caOf_apply]
      refine congrArg scaleF (congrArg amax (funext fun r => (yG_apply arg1 arg2 arg3 arg10 arg11 k f1 f2 f3 n h r _).trans ?_))
      refine congrArg (Yk arg1 arg2 arg3 k f1 f2 f3 r) (Fin.ext ?_)
      show 128 * n + (c.val - 128 * n) = c.val
      omega
    · have hcond : (b.val = k.val ∧ c.val < 128 * (n + 1)) ↔ (b.val = k.val ∧ c.val < 128 * n) := by omega
      simp only [hcond]
      refine Eq.trans ?_ ih
      by_cases hb : b.val = k.val
      · by_cases hlt : c.val < 128 * n
        · exact View.read_writes_cons_unit_of_not_mem (e := .f32) arg7.view f (inb_7 k n h) _ _ (ix4 0 b 0 c) ho 3 (.inl hlt)
        · exact View.read_writes_cons_unit_of_not_mem (e := .f32) arg7.view f (inb_7 k n h) _ _ (ix4 0 b 0 c) ho 3 (.inr (by show 128 * n + 128 ≤ c.val; omega))
      · refine View.read_writes_cons_unit_of_not_mem (e := .f32) arg7.view f (inb_7 k n h) _ _ (ix4 0 b 0 c) ho 1 ?_
        show b.val < k.val ∨ k.val + 1 ≤ b.val
        omega

theorem ms_read (n : Nat) (h : n ≤ 32) (f : BufTy.Contents (Elt Ideal) arg12.view.ty) (r : Fin 128) (c : Fin 128) (hc : c.val < n) :
    arg12.view.read (Elt Ideal) (arg12.view.writes (Elt Ideal) f (Ms arg1 arg2 arg3 arg10 arg11 w3 w4 k f1 f2 f3 n h)) (ix2 r c)
      = rmK arg1 arg2 arg3 k f1 f2 f3 c.val (by omega) r := by
  induction n with
  | zero => exact absurd hc (Nat.not_lt_zero _)
  | succ n ih =>
    by_cases hlt : c.val < n
    · exact (View.read_writes_cons_unit_of_not_mem (e := .f32) arg12.view f (inb_m n h) _ _ (ix2 r c) rfl 1 (.inl hlt)).trans (ih (Nat.le_of_succ_le h) hlt)
    · obtain ⟨c, hc'⟩ := c
      obtain rfl : c = n := by simp only at hc hlt; omega
      refine (View.read_writes_cons_unit_of_mem (e := .f32) arg12.view f (inb_m c h) _ _ (ix2 r ⟨c, hc'⟩) (ix2 r 0) rfl fun a => ?_).trans ?_
      · match a with
        | ⟨0, _⟩ => exact (Nat.zero_add r.val).symm
        | ⟨1, _⟩ => rfl
      rw [raOf_apply]
      exact congrArg amax (funext fun l => yG_apply arg1 arg2 arg3 arg10 arg11 k f1 f2 f3 c h r l)
end

end Cert.Proof.Value

end
-- ==== Proof.Value.Codes.lean ====
/- The codes of a trip's columns: the stores as a plain list, and what they leave at an index over the reals. -/
module

public import proofs.«01_k».proof.Proof.Value.Groups

@[expose] public section

noncomputable section

namespace Cert.Proof.Value

open Cert.KernelIdeal Cert.KernelIdeal.Gen
open Idealize.ShloMosaic Idealize.ShloMosaic.TcCoe

section
variable {F : FTy → Type} [FloatOps F]

/-- The codes of a group's tile, its columns as rows: the tile times the inverse scales, clipped. -/
def ccOf (y : FVec F S128x128 .f32) : FVec F S128x128 .fp8e4m3 :=
  transpose S128x128 [1, 0] (truncf .fp8e4m3 (minimumf (maximumf
    (mulf y (broadcastTo S128x128 (divf (broadcast S1x128 (Scalar.ofBits .f32 0x3F800000#32))
      (ladder (mulf (caOf y) (broadcast S1x128 (Scalar.ofBits .f32 0x3B124925#32))))) broadcasts_S1x128_S128x128))
    (broadcast S128x128 (Scalar.ofBits .f32 0xC3E00000#32))) (broadcast S128x128 (Scalar.ofBits .f32 0x43E00000#32))) bitsLt_fp8e4m3_f32)
    transposes_S128x128_p1_0_S128x128

/-- The offsets of a group's store of codes. -/
def off6 (k : Fin k0_t1_loop.trips) (n : Nat) : Fin 2 → Nat := ![n, k0_off20 k 1]

theorem off6_eq (k : Fin k0_t1_loop.trips) (n : Nat) : off6 k n = ![n, 128 * k.val] := by
  have e : k0_off20 k 1 = 128 * k.val := by revert k; decide +kernel
  unfold off6
  rw [e]

theorem inb_6 (k : Fin k0_t1_loop.trips) (n : Nat) (h : n < 32) : ∀ a, off6 k (128 * n) a + S128x128.size a ≤ S4096x512.size a := by
  have : ∀ k : Fin k0_t1_loop.trips, ∀ n : Fin 32, ∀ a, off6 k (128 * n.val) a + S128x128.size a ≤ S4096x512.size a := by decide +kernel
  exact this k ⟨n, h⟩

variable (c : Dev nD) (i : grid0.Coords) (arg1 : Memref sig .tc .vmem S512x4096 .bf16) (harg1 : arg1.IsWhole) (arg2 : Memref sig .tc .vmem S1x4096 .f32) (harg2 : arg2.IsWhole) (arg3 : Memref sig .tc .vmem S1x4096 .f32) (harg3 : arg3.IsWhole) (arg4 : Memref sig .tc .vmem S512x4096 .fp8e4m3) (harg4 : arg4.IsWhole) (arg5 : Memref sig .tc .vmem S32x512 .f32) (harg5 : arg5.IsWhole) (arg6 : Memref sig .tc .vmem S4096x512 .fp8e4m3) (harg6 : arg6.IsWhole) (arg7 : Memref sig .tc .vmem S1x4x1x4096 .f32) (harg7 : arg7.IsWhole) (arg8 : Memref sig .tc .vmem S1x4x1x128 .f32) (harg8 : arg8.IsWhole) (arg9 : Memref sig .tc .vmem S1x4x1x128 .f32) (harg9 : arg9.IsWhole) (arg10 : Memref sig .tc .vmem S128x4096 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x4096 .bf16) (harg13 : arg13.IsWhole)
  (v3 v4 : IVec S128x128 32) (k : Fin k0_t1_loop.trips) (acc : Unit)
  (f1 : BufTy.Contents (Elt F) arg1.view.ty) (f2 : BufTy.Contents (Elt F) arg2.view.ty) (f3 : BufTy.Contents (Elt F) arg3.view.ty)
  (f13 : BufTy.Contents (Elt F) arg13.view.ty) (f10 : BufTy.Contents (Elt F) arg10.view.ty)

/-- The stores of the columns' codes up to group `n`. -/
def Cs : (n : Nat) → n ≤ 32 → List (View.Piece (Elt F) S4096x512 .fp8e4m3)
  | 0, _ => []
  | n + 1, h => ⟨Rect.unit (s := S4096x512) (off6 k (128 * n)) S128x128.size (inb_6 k n h),
      ccOf (yG arg1 arg2 arg3 arg10 arg11 v3 v4 k f1 f2 f3 n h)⟩ :: Cs n (Nat.le_of_succ_le h)

theorem l6_eq : (trip c i arg1 harg1 arg2 harg2 arg3 harg3 arg4 harg4 arg5 harg5 arg6 harg6 arg7 harg7 arg8 harg8 arg9 harg9 arg10 harg10 arg11 harg11 arg12 harg12 arg13 harg13 v3 v4 k acc f1 f2 f3 f13).2.2.2.2.1 f10
    = Cs arg1 arg2 arg3 arg10 arg11 v3 v4 k f1 f2 f3 32 (by decide) := rfl
end

/-- A value clipped to the codes' range. -/
def clipF (x : EReal) : EReal := min (max x (Ideal.ofBits .f32 0xC3E00000#32)) (Ideal.ofBits .f32 0x43E00000#32)
/-- A value's code in a group whose largest magnitude is `a`: times the inverse of the least power above a 448th of it. -/
def codeF (y a : EReal) : EReal := clipF (y * Ideal.div (Ideal.ofBits .f32 0x3F800000#32) (above (a * Ideal.ofBits .f32 0x3B124925#32)))

theorem ccOf_apply (y : FVec Ideal S128x128 .f32) (l r : Fin 128) : ccOf y (ix2 l r) = codeF (y (ix2 r l)) (amax fun r => y (ix2 r l)) := by
  have e : ladder (F := Ideal) (mulf (caOf y) (broadcast S1x128 (Scalar.ofBits .f32 0x3B124925#32))) (ix2 0 l)
      = above ((amax fun r => y (ix2 r l)) * Ideal.ofBits .f32 0x3B124925#32) := by
    rw [ladder_apply, ← caOf_apply]
    rfl
  unfold ccOf codeF clipF
  rw [← e]
  generalize ladder (F := Ideal) (mulf (caOf y) (broadcast S1x128 (Scalar.ofBits .f32 0x3B124925#32))) = A
  simp only [pointwise]
  rfl

section
variable (arg1 : Memref sig .tc .vmem S512x4096 .bf16) (arg2 : Memref sig .tc .vmem S1x4096 .f32) (arg3 : Memref sig .tc .vmem S1x4096 .f32)
  (arg10 : Memref sig .tc .vmem S128x4096 .f32) (arg11 : Memref sig .tc .vmem S128x128 .f32) (k : Fin k0_t1_loop.trips)
  (f1 : BufTy.Contents (Elt Ideal) arg1.view.ty) (f2 : BufTy.Contents (Elt Ideal) arg2.view.ty) (f3 : BufTy.Contents (Elt Ideal) arg3.view.ty)

/-- The code of a trip's element in its column's group. -/
def ccK (c : Fin 4096) (r : Fin 128) : EReal := codeF (Yk arg1 arg2 arg3 k f1 f2 f3 r c) (cmK arg1 arg2 arg3 k f1 f2 f3 c)

theorem codes_read (arg6 : Memref sig .tc .vmem S4096x512 .fp8e4m3) (n : Nat) (h : n ≤ 32) (f : BufTy.Contents (Elt Ideal) arg6.view.ty) (c : Fin 4096) (b : Fin 4) (r : Fin 128) :
    arg6.view.read (Elt Ideal) (arg6.view.writes (Elt Ideal) f (Cs arg1 arg2 arg3 arg10 arg11 w3 w4 k f1 f2 f3 n h)) (ix2 c ⟨128 * b.val + r.val, by omega⟩)
      = if b.val = k.val ∧ c.val < 128 * n then ccK arg1 arg2 arg3 k f1 f2 f3 c r else arg6.view.read (Elt Ideal) f (ix2 c ⟨128 * b.val + r.val, by omega⟩) := by
  induction n with
  | zero => rw [if_neg (by omega)]; rfl
  | succ n ih =>
    have ih := ih (Nat.le_of_succ_le h)
    have ho : off6 k (128 * n) = ![128 * n, 128 * k.val] := off6_eq k _
    by_cases hin : b.val = k.val ∧ 128 * n ≤ c.val ∧ c.val < 128 * n + 128
    · refine (View.read_writes_cons_unit_of_mem (e := .fp8e4m3) arg6.view f (inb_6 k n h) _ _ (ix2 c ⟨128 * b.val + r.val, by omega⟩) (ix2 ⟨c.val - 128 * n, by omega⟩ r) ho fun a => ?_).trans ?_
      · match a with
        | ⟨0, _⟩ => show c.val = 128 * n + (c.val - 128 * n); omega
        | ⟨1, _⟩ => show 128 * b.val + r.val = 128 * k.val + r.val; omega
      rw [if_pos (by omega), ccOf_apply]
      have ey : ∀ r : Fin 128, yG arg1 arg2 arg3 arg10 arg11 w3 w4 k f1 f2 f3 n h (ix2 r ⟨c.val - 128 * n, by omega⟩) = Yk arg1 arg2 arg3 k f1 f2 f3 r c := fun r =>
        (yG_apply arg1 arg2 arg3 arg10 arg11 k f1 f2 f3 n h r _).trans (congrArg (Yk arg1 arg2 arg3 k f1 f2 f3 r) (Fin.ext (by
          show 128 * n + (c.val - 128 * n) = c.val
          omega)))
      unfold ccK cmK
      rw [← ey r]
      exact congrArg (fun g => codeF _ (amax g)) (funext ey)
    · have hcond : (b.val = k.val ∧ c.val < 128 * (n + 1)) ↔ (b.val = k.val ∧ c.val < 128 * n) := by omega
      simp only [hcond]
      refine Eq.trans ?_ ih
      by_cases hb : b.val = k.val
      · by_cases hlt : c.val < 128 * n
        · exact View.read_writes_cons_unit_of_not_mem (e := .fp8e4m3) arg6.view f (inb_6 k n h) _ _ _ ho 0 (.inl hlt)
        · exact View.read_writes_cons_unit_of_not_mem (e := .fp8e4m3) arg6.view f (inb_6 k n h) _ _ _ ho 0 (.inr (by show 128 * n + 128 ≤ c.val; omega))
      · refine View.read_writes_cons_unit_of_not_mem (e := .fp8e4m3) arg6.view f (inb_6 k n h) _ _ _ ho 1 ?_
        show 128 * b.val + r.val < 128 * k.val ∨ 128 * k.val + 128 ≤ 128 * b.val + r.val
        omega
end

end Cert.Proof.Value

end
-- ==== Proof.Value.Loop.lean ====
/- The token loop's invariant with the two statistics, the scales and the columns' codes named, and the kernel body's triple. -/
module

public import proofs.«01_k».proof.Proof.Value.Codes
public import Idealize.ShloMosaic.Lib.WritesUnit

@[expose] public section

set_option warn.classDefReducibility false

noncomputable section

namespace Cert.Proof.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem off2_eq (k : Fin k0_t1_loop.trips) : k0_off2 k = ![0, k.val, 0, 0] := by revert k; decide +kernel
theorem lt4 (t : Fin k0_t1_loop.trips) : t.val < 4 := t.isLt

/-- The four rows of a buffer of statistics that trips before `k` have filled with `S`. -/
def Filled (M : Memref sig .tc .vmem S1x4x1x128 .f32) (S : Fin k0_t1_loop.trips → Fin 128 → EReal) (k : Nat) (f : BufTy.Contents (Elt Ideal) M.view.ty) : Prop :=
  ∀ (t : Fin k0_t1_loop.trips), t.val < k → ∀ l : Fin 128, M.view.read (Elt Ideal) f (ix4 0 ⟨t.val, lt4 t⟩ 0 l) = S t l

theorem filled_zero (M : Memref sig .tc .vmem S1x4x1x128 .f32) (S) (f : BufTy.Contents (Elt Ideal) M.view.ty) : Filled M S 0 f :=
  fun _ h => absurd h (Nat.not_lt_zero _)

theorem filled_step (M : Memref sig .tc .vmem S1x4x1x128 .f32) (S) (k : Fin k0_t1_loop.trips) (f : BufTy.Contents (Elt Ideal) M.view.ty)
    (w : FVec Ideal S1x1x1x128 .f32) (hw : ∀ l : Fin 128, w (ix4 0 0 0 l) = S k l) (hf : Filled M S k.val f) :
    Filled M S (k.val + 1) (M.view.writes (Elt Ideal) f [⟨Rect.unit (k0_off2 k) ![1, 1, 1, 128] (k0_off2_inb k), w⟩]) := by
  intro t ht l
  refine (View.read_writes_cons_unit (e := .f32) M.view f (k0_off2_inb k) w [] _ (off2_eq k)).trans ?_
  by_cases hk : t = k
  · subst hk
    have hin : ∀ a, (![0, t.val, 0, 0] : Fin 4 → Nat) a ≤ ((ix4 0 ⟨t.val, lt4 t⟩ 0 l : S1x4x1x128.Idx) a).val
        ∧ ((ix4 0 ⟨t.val, lt4 t⟩ 0 l : S1x4x1x128.Idx) a).val < (![0, t.val, 0, 0] : Fin 4 → Nat) a + (![1, 1, 1, 128] : Fin 4 → Nat) a := by
      intro a
      match a with
      | ⟨0, _⟩ => exact ⟨Nat.le_refl 0, Nat.zero_lt_one⟩
      | ⟨1, _⟩ => exact ⟨Nat.le_refl t.val, Nat.lt_succ_self t.val⟩
      | ⟨2, _⟩ => exact ⟨Nat.le_refl 0, Nat.zero_lt_one⟩
      | ⟨3, _⟩ => exact ⟨Nat.zero_le _, by show l.val < 0 + 128; omega⟩
    refine (dif_pos hin).trans ((congrArg w (funext fun a => Fin.ext ?_)).trans (hw l))
    match a with
    | ⟨0, _⟩ => rfl
    | ⟨1, _⟩ => exact Nat.sub_self t.val
    | ⟨2, _⟩ => rfl
    | ⟨3, _⟩ => rfl
  · have hne : t.val ≠ k.val := fun h => hk (Fin.ext h)
    refine (dif_neg fun h => ?_).trans (hf t (by omega) l)
    have h1 := h 1
    have a1 : k.val ≤ t.val := h1.1
    omega

/-- The four rows of the buffer of column scales that trips before `k` have filled with `S`. -/
def FilledC (M : Memref sig .tc .vmem S1x4x1x4096 .f32) (S : Fin k0_t1_loop.trips → Fin 4096 → EReal) (k : Nat) (f : BufTy.Contents (Elt Ideal) M.view.ty) : Prop :=
  ∀ (t : Fin k0_t1_loop.trips), t.val < k → ∀ c : Fin 4096, M.view.read (Elt Ideal) f (ix4 0 ⟨t.val, lt4 t⟩ 0 c) = S t c
/-- The four blocks of 128 columns of the buffer of row scales that trips before `k` have filled with `S`. -/
def FilledR (M : Memref sig .tc .vmem S32x512 .f32) (S : Fin k0_t1_loop.trips → Fin 32 → Fin 128 → EReal) (k : Nat) (f : BufTy.Contents (Elt Ideal) M.view.ty) : Prop :=
  ∀ (t : Fin k0_t1_loop.trips), t.val < k → ∀ (c : Fin 32) (r : Fin 128),
    M.view.read (Elt Ideal) f (ix2 c ⟨128 * t.val + r.val, by have := lt4 t; omega⟩) = S t c r

/-- The four blocks of 128 columns of the buffer of column codes that trips before `k` have filled with `S`. -/
def FilledQ (M : Memref sig .tc .vmem S4096x512 .fp8e4m3) (S : Fin k0_t1_loop.trips → Fin 4096 → Fin 128 → EReal) (k : Nat) (f : BufTy.Contents (Elt Ideal) M.view.ty) : Prop :=
  ∀ (t : Fin k0_t1_loop.trips), t.val < k → ∀ (c : Fin 4096) (r : Fin 128),
    M.view.read (Elt Ideal) f (ix2 c ⟨128 * t.val + r.val, by have := lt4 t; omega⟩) = S t c r

theorem filledQ_zero (M : Memref sig .tc .vmem S4096x512 .fp8e4m3) (S) (f : BufTy.Contents (Elt Ideal) M.view.ty) : FilledQ M S 0 f :=
  fun _ h => absurd h (Nat.not_lt_zero _)
theorem filledC_zero (M : Memref sig .tc .vmem S1x4x1x4096 .f32) (S) (f : BufTy.Contents (Elt Ideal) M.view.ty) : FilledC M S 0 f :=
  fun _ h => absurd h (Nat.not_lt_zero _)
theorem filledR_zero (M : Memref sig .tc .vmem S32x512 .f32) (S) (f : BufTy.Contents (Elt Ideal) M.view.ty) : FilledR M S 0 f :=
  fun _ h => absurd h (Nat.not_lt_zero _)

theorem off83_eq (k : Fin k0_t1_loop.trips) : k0_off83 k = ![0, 128 * k.val] := by revert k; decide +kernel

section
variable (arg1 : Memref sig .tc .vmem S512x4096 .bf16) (arg2 : Memref sig .tc .vmem S1x4096 .f32) (arg3 : Memref sig .tc .vmem S1x4096 .f32)
  (arg10 : Memref sig .tc .vmem S128x4096 .f32) (arg11 : Memref sig .tc .vmem S128x128 .f32) (arg12 : Memref sig .tc .vmem S128x128 .f32)
  (f1 : BufTy.Contents (Elt Ideal) arg1.view.ty) (f2 : BufTy.Contents (Elt Ideal) arg2.view.ty) (f3 : BufTy.Contents (Elt Ideal) arg3.view.ty)

/-- The column scales and the row scales of trip `t`. -/
def csK (t : Fin k0_t1_loop.trips) (c : Fin 4096) : EReal := scaleF (cmK arg1 arg2 arg3 t f1 f2 f3 c)
def rsK (t : Fin k0_t1_loop.trips) (c : Fin 32) (r : Fin 128) : EReal := scaleF (rmK arg1 arg2 arg3 t f1 f2 f3 c.val c.isLt r)

theorem filledC_step (M : Memref sig .tc .vmem S1x4x1x4096 .f32) (k : Fin k0_t1_loop.trips) (f : BufTy.Contents (Elt Ideal) M.view.ty)
    (hf : FilledC M (csK arg1 arg2 arg3 f1 f2 f3) k.val f) :
    FilledC M (csK arg1 arg2 arg3 f1 f2 f3) (k.val + 1)
      (M.view.writes (Elt Ideal) f (Ls arg1 arg2 arg3 arg10 arg11 w3 w4 k f1 f2 f3 32 (by decide))) := by
  intro t ht c
  rw [ls_read]
  by_cases hk : t = k
  · subst hk
    exact if_pos ⟨rfl, c.isLt⟩
  · have hne : t.val ≠ k.val := fun h => hk (Fin.ext h)
    exact (if_neg fun h => hne h.1).trans (hf t (by omega) c)

theorem filledQ_step (M : Memref sig .tc .vmem S4096x512 .fp8e4m3) (k : Fin k0_t1_loop.trips) (f : BufTy.Contents (Elt Ideal) M.view.ty)
    (hf : FilledQ M (fun t => ccK arg1 arg2 arg3 t f1 f2 f3) k.val f) :
    FilledQ M (fun t => ccK arg1 arg2 arg3 t f1 f2 f3) (k.val + 1)
      (M.view.writes (Elt Ideal) f (Cs arg1 arg2 arg3 arg10 arg11 w3 w4 k f1 f2 f3 32 (by decide))) := by
  intro t ht c r
  refine (codes_read arg1 arg2 arg3 arg10 arg11 k f1 f2 f3 M 32 (by decide) f c ⟨t.val, lt4 t⟩ r).trans ?_
  by_cases hk : t = k
  · subst hk
    exact if_pos ⟨rfl, c.isLt⟩
  · have hne : t.val ≠ k.val := fun h => hk (Fin.ext h)
    exact (if_neg fun h => hne h.1).trans (hf t (by omega) c r)

theorem filledR_step (M : Memref sig .tc .vmem S32x512 .f32) (k : Fin k0_t1_loop.trips) (f : BufTy.Contents (Elt Ideal) M.view.ty)
    (f12 : BufTy.Contents (Elt Ideal) arg12.view.ty) (hf : FilledR M (rsK arg1 arg2 arg3 f1 f2 f3) k.val f) :
    FilledR M (rsK arg1 arg2 arg3 f1 f2 f3) (k.val + 1)
      (M.view.writes (Elt Ideal) f [⟨Rect.unit (s := S32x512) (k0_off83 k) S32x128.size (k0_off83_inb k), rsOf (F := Ideal) (View.readAt (Elt Ideal) arg12.view (Rect.unit (s := S128x128) ![0, 0] S128x128.size inb_whole).toLoadRect
        (arg12.view.writes (Elt Ideal) f12 (Ms arg1 arg2 arg3 arg10 arg11 w3 w4 k f1 f2 f3 32 (by decide))))⟩]) := by
  intro t ht c r
  by_cases hk : t = k
  · subst hk
    refine (View.read_writes_cons_unit_of_mem (e := .f32) M.view f (k0_off83_inb t) _ [] _ (ix2 c r) (off83_eq t) fun a => ?_).trans ?_
    · match a with
      | ⟨0, _⟩ => exact (Nat.zero_add c.val).symm
      | ⟨1, _⟩ => rfl
    rw [rsOf_apply]
    unfold rsK
    refine congrArg scaleF (Eq.trans (View.readAt_apply (v := arg12.view) _ _ _) (Eq.trans (congrArg _ (funext fun a => Fin.ext ?_))
      (ms_read arg1 arg2 arg3 arg10 arg11 arg12 t f1 f2 f3 32 (by decide) f12 r ⟨c.val, by omega⟩ c.isLt)))
    match a with
    | ⟨0, _⟩ => show 0 + 1 * r.val = r.val; omega
    | ⟨1, _⟩ => show 0 + 1 * c.val = c.val; omega
  · have hne : t.val ≠ k.val := fun h => hk (Fin.ext h)
    refine (View.read_writes_cons_unit_of_not_mem (e := .f32) M.view f (k0_off83_inb k) _ [] _ (off83_eq k) 1 ?_).trans (hf t (by omega) c r)
    show 128 * t.val + r.val < 128 * k.val ∨ 128 * k.val + 128 ≤ 128 * t.val + r.val
    omega
end

section
variable (arg1 : Memref sig .tc .vmem S512x4096 .bf16) (arg2 : Memref sig .tc .vmem S1x4096 .f32) (arg3 : Memref sig .tc .vmem S1x4096 .f32) (arg4 : Memref sig .tc .vmem S512x4096 .fp8e4m3) (arg5 : Memref sig .tc .vmem S32x512 .f32) (arg6 : Memref sig .tc .vmem S4096x512 .fp8e4m3) (arg7 : Memref sig .tc .vmem S1x4x1x4096 .f32) (arg8 : Memref sig .tc .vmem S1x4x1x128 .f32) (arg9 : Memref sig .tc .vmem S1x4x1x128 .f32) (arg10 : Memref sig .tc .vmem S128x4096 .f32) (arg11 : Memref sig .tc .vmem S128x128 .f32) (arg12 : Memref sig .tc .vmem S128x128 .f32) (arg13 : Memref sig .tc .vmem S128x4096 .bf16)
  (f1 : BufTy.Contents (Elt Ideal) arg1.view.ty) (f2 : BufTy.Contents (Elt Ideal) arg2.view.ty) (f3 : BufTy.Contents (Elt Ideal) arg3.view.ty)

/-- The statistics' rows as the trips store them. -/
theorem muStored (k : Fin k0_t1_loop.trips) (l : Fin 128) :
    k0_pay201 (F := Ideal) (trip.sl.r_202 arg1 w3 w4 k f1) (ix4 0 0 0 l) = muK arg1 k f1 l := by
  rw [r_202_eq, ← muRow_apply]
  generalize muRow (F := Ideal) arg1 k f1 w3 w4 = A
  unfold k0_pay201
  simp only [pointwise]
theorem sigStored (k : Fin k0_t1_loop.trips) (l : Fin 128) :
    k0_pay247 (F := Ideal) (trip.sl.r_216 arg1 w3 w4 k f1) (trip.sl.r_217 arg1 w3 w4 k f1) (trip.sl.r_218 arg1 w3 w4 k f1) (ix4 0 0 0 l) = sigK arg1 k f1 l := by
  rw [sig_eq, ← sigV_apply]
  generalize sigV (F := Ideal) arg1 k f1 w3 w4 = A
  simp only [pointwise]
end

/-- What a trip touches before trip `k`: the block of rows, the gain and the shift at their contents, the two statistics'
    rows, the scales and the columns' codes before `k` filled, everything else at some contents. -/
abbrev Res (c : Dev nD) (arg1 : Memref sig .tc .vmem S512x4096 .bf16) (arg2 : Memref sig .tc .vmem S1x4096 .f32) (arg3 : Memref sig .tc .vmem S1x4096 .f32) (arg4 : Memref sig .tc .vmem S512x4096 .fp8e4m3) (arg5 : Memref sig .tc .vmem S32x512 .f32) (arg6 : Memref sig .tc .vmem S4096x512 .fp8e4m3) (arg7 : Memref sig .tc .vmem S1x4x1x4096 .f32) (arg8 : Memref sig .tc .vmem S1x4x1x128 .f32) (arg9 : Memref sig .tc .vmem S1x4x1x128 .f32) (arg10 : Memref sig .tc .vmem S128x4096 .f32) (arg11 : Memref sig .tc .vmem S128x128 .f32) (arg12 : Memref sig .tc .vmem S128x128 .f32) (arg13 : Memref sig .tc .vmem S128x4096 .bf16)
    (f1 : BufTy.Contents (Elt Ideal) arg1.view.ty) (f2 : BufTy.Contents (Elt Ideal) arg2.view.ty) (f3 : BufTy.Contents (Elt Ideal) arg3.view.ty) (k : Nat) : sProp 𝕄 :=
  iprop(held c arg1 f1 ∗ held c arg2 f2 ∗ held c arg3 f3 ∗ some' c arg4 ∗ (∃ f5, ⌜FilledR arg5 (rsK arg1 arg2 arg3 f1 f2 f3) k f5⌝ ∗ held c arg5 f5)
      ∗ (∃ f6, ⌜FilledQ arg6 (fun t => ccK arg1 arg2 arg3 t f1 f2 f3) k f6⌝ ∗ held c arg6 f6) ∗ (∃ f7, ⌜FilledC arg7 (csK arg1 arg2 arg3 f1 f2 f3) k f7⌝ ∗ held c arg7 f7)
      ∗ (∃ f8, ⌜Filled arg8 (fun t => sigK arg1 t f1) k f8⌝ ∗ held c arg8 f8) ∗ (∃ f9, ⌜Filled arg9 (fun t => muK arg1 t f1) k f9⌝ ∗ held c arg9 f9)
      ∗ some' c arg10 ∗ some' c arg11 ∗ some' c arg12 ∗ some' c arg13)

theorem step (c : Dev nD) (i : grid0.Coords) (arg1 : Memref sig .tc .vmem S512x4096 .bf16) (harg1 : arg1.IsWhole) (arg2 : Memref sig .tc .vmem S1x4096 .f32) (harg2 : arg2.IsWhole) (arg3 : Memref sig .tc .vmem S1x4096 .f32) (harg3 : arg3.IsWhole) (arg4 : Memref sig .tc .vmem S512x4096 .fp8e4m3) (harg4 : arg4.IsWhole) (arg5 : Memref sig .tc .vmem S32x512 .f32) (harg5 : arg5.IsWhole) (arg6 : Memref sig .tc .vmem S4096x512 .fp8e4m3) (harg6 : arg6.IsWhole) (arg7 : Memref sig .tc .vmem S1x4x1x4096 .f32) (harg7 : arg7.IsWhole) (arg8 : Memref sig .tc .vmem S1x4x1x128 .f32) (harg8 : arg8.IsWhole) (arg9 : Memref sig .tc .vmem S1x4x1x128 .f32) (harg9 : arg9.IsWhole) (arg10 : Memref sig .tc .vmem S128x4096 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x4096 .bf16) (harg13 : arg13.IsWhole) (k : Fin k0_t1_loop.trips) (acc : Unit)
    (f1 : BufTy.Contents (Elt Ideal) arg1.view.ty) (f2 : BufTy.Contents (Elt Ideal) arg2.view.ty) (f3 : BufTy.Contents (Elt Ideal) arg3.view.ty) :
    Res c arg1 arg2 arg3 arg4 arg5 arg6 arg7 arg8 arg9 arg10 arg11 arg12 arg13 f1 f2 f3 k.val
    ⊢ wp frame (wpE (defs₀ (F := Ideal)) 𝒱₀ (c : Thread nD τ) none) Set.univ (k0_t1_body (F := Ideal) i arg1 harg1 arg2 harg2 arg3 harg3 arg4 harg4 arg5 harg5 arg6 harg6 arg7 harg7 arg8 harg8 arg9 harg9 arg10 harg10 arg11 harg11 arg12 harg12 arg13 harg13 w3 w4 k acc)
      (fun _ => Res c arg1 arg2 arg3 arg4 arg5 arg6 arg7 arg8 arg9 arg10 arg11 arg12 arg13 f1 f2 f3 (k.val + 1)) := by
  iintro ⟨H1, H2, H3, ⟨%f4, H4⟩, ⟨%f5, %h5, H5⟩, ⟨%f6, %h6, H6⟩, ⟨%f7, %h7, H7⟩, ⟨%f8, %h8, H8⟩, ⟨%f9, %h9, H9⟩, ⟨%f10, H10⟩, ⟨%f11, H11⟩, ⟨%f12, H12⟩, ⟨%f13, H13⟩⟩
  iapply (wp_wand_r frame (wpE (defs₀ (F := Ideal)) 𝒱₀ (c : Thread nD τ) none) Set.univ)
  isplitl [H1 H2 H3 H4 H5 H6 H7 H8 H9 H10 H11 H12 H13]
  · iapply ((trip c i arg1 harg1 arg2 harg2 arg3 harg3 arg4 harg4 arg5 harg5 arg6 harg6 arg7 harg7 arg8 harg8 arg9 harg9 arg10 harg10 arg11 harg11 arg12 harg12 arg13 harg13 w3 w4 k acc f1 f2 f3 f13).2.2.2.2.2.2.2 f4 f5 f6 f7 f8 f9 f10 f11 f12)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %u ⟨H1, H2, H3, H4, H5, H6, H7, H8, H9, H10, H11, H12, H13⟩
  isplitl [H1]; · iexact H1
  isplitl [H2]; · iexact H2
  isplitl [H3]; · iexact H3
  isplitl [H4]; · iexists _; iexact H4
  isplitl [H5]
  · iexists (arg5.view.writes (Elt Ideal) f5 ((trip c i arg1 harg1 arg2 harg2 arg3 harg3 arg4 harg4 arg5 harg5 arg6 harg6 arg7 harg7 arg8 harg8 arg9 harg9 arg10 harg10 arg11 harg11 arg12 harg12 arg13 harg13 w3 w4 k acc f1 f2 f3 f13).2.2.2.2.2.1 f10 f12)); isplitr
    · ipureintro; rw [l5_eq]; exact filledR_step arg1 arg2 arg3 arg10 arg11 arg12 f1 f2 f3 arg5 k f5 f12 h5
    iexact H5
  isplitl [H6]
  · iexists (arg6.view.writes (Elt Ideal) f6 ((trip c i arg1 harg1 arg2 harg2 arg3 harg3 arg4 harg4 arg5 harg5 arg6 harg6 arg7 harg7 arg8 harg8 arg9 harg9 arg10 harg10 arg11 harg11 arg12 harg12 arg13 harg13 w3 w4 k acc f1 f2 f3 f13).2.2.2.2.1 f10)); isplitr
    · ipureintro; rw [l6_eq]; exact filledQ_step arg1 arg2 arg3 arg10 arg11 f1 f2 f3 arg6 k f6 h6
    iexact H6
  isplitl [H7]
  · iexists (arg7.view.writes (Elt Ideal) f7 ((trip c i arg1 harg1 arg2 harg2 arg3 harg3 arg4 harg4 arg5 harg5 arg6 harg6 arg7 harg7 arg8 harg8 arg9 harg9 arg10 harg10 arg11 harg11 arg12 harg12 arg13 harg13 w3 w4 k acc f1 f2 f3 f13).2.2.2.1 f10)); isplitr
    · ipureintro; rw [l7_eq]; exact filledC_step arg1 arg2 arg3 arg10 arg11 f1 f2 f3 arg7 k f7 h7
    iexact H7
  isplitl [H8]
  · iexists _; isplitr
    · ipureintro; exact filled_step arg8 (fun t => sigK arg1 t f1) k f8 _ (sigStored arg1 f1 k) h8
    unfold trip; dsimp only
    iexact H8
  isplitl [H9]
  · iexists _; isplitr
    · ipureintro; exact filled_step arg9 (fun t => muK arg1 t f1) k f9 _ (muStored arg1 f1 k) h9
    unfold trip; dsimp only
    iexact H9
  isplitl [H10]; · iexists _; iexact H10
  isplitl [H11]; · iexact H11
  isplitl [H12]; · iexact H12
  iexists _; iexact H13

attribute [local irreducible] k0_t1_body in
/-- The loop's invariant. -/
@[sl_loop] noncomputable def loopInv_k0_t1 (c : Dev nD) (i : grid0.Coords) (arg1 : Memref sig .tc .vmem S512x4096 .bf16) (harg1 : arg1.IsWhole) (arg2 : Memref sig .tc .vmem S1x4096 .f32) (harg2 : arg2.IsWhole) (arg3 : Memref sig .tc .vmem S1x4096 .f32) (harg3 : arg3.IsWhole) (arg4 : Memref sig .tc .vmem S512x4096 .fp8e4m3) (harg4 : arg4.IsWhole) (arg5 : Memref sig .tc .vmem S32x512 .f32) (harg5 : arg5.IsWhole) (arg6 : Memref sig .tc .vmem S4096x512 .fp8e4m3) (harg6 : arg6.IsWhole) (arg7 : Memref sig .tc .vmem S1x4x1x4096 .f32) (harg7 : arg7.IsWhole) (arg8 : Memref sig .tc .vmem S1x4x1x128 .f32) (harg8 : arg8.IsWhole) (arg9 : Memref sig .tc .vmem S1x4x1x128 .f32) (harg9 : arg9.IsWhole) (arg10 : Memref sig .tc .vmem S128x4096 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x4096 .bf16) (harg13 : arg13.IsWhole)
    (f1 : BufTy.Contents (Elt Ideal) arg1.view.ty) (f2 : BufTy.Contents (Elt Ideal) arg2.view.ty) (f3 : BufTy.Contents (Elt Ideal) arg3.view.ty) :
    LoopInvTy_k0_t1 (F := Ideal) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13
      (iota .tc S128x128 32 [0] iota_S128x128_d0_w32) (iota .tc S128x128 32 [1] iota_S128x128_d1_w32) where
  inv := fun k _ => Res c arg1 arg2 arg3 arg4 arg5 arg6 arg7 arg8 arg9 arg10 arg11 arg12 arg13 f1 f2 f3 k
  step := fun k acc => step c i arg1 harg1 arg2 harg2 arg3 harg3 arg4 harg4 arg5 harg5 arg6 harg6 arg7 harg7 arg8 harg8 arg9 harg9 arg10 harg10 arg11 harg11 arg12 harg12 arg13 harg13 k acc f1 f2 f3

/-- The kernel body from any contents of the buffers it writes: it ends, the three operands unchanged, the statistics' rows, the scales and the columns' codes filled. -/
theorem kernelRun (c : Dev nD) (i : grid0.Coords) (arg1 : Memref sig .tc .vmem S512x4096 .bf16) (harg1 : arg1.IsWhole) (arg2 : Memref sig .tc .vmem S1x4096 .f32) (harg2 : arg2.IsWhole) (arg3 : Memref sig .tc .vmem S1x4096 .f32) (harg3 : arg3.IsWhole) (arg4 : Memref sig .tc .vmem S512x4096 .fp8e4m3) (harg4 : arg4.IsWhole) (arg5 : Memref sig .tc .vmem S32x512 .f32) (harg5 : arg5.IsWhole) (arg6 : Memref sig .tc .vmem S4096x512 .fp8e4m3) (harg6 : arg6.IsWhole) (arg7 : Memref sig .tc .vmem S1x4x1x4096 .f32) (harg7 : arg7.IsWhole) (arg8 : Memref sig .tc .vmem S1x4x1x128 .f32) (harg8 : arg8.IsWhole) (arg9 : Memref sig .tc .vmem S1x4x1x128 .f32) (harg9 : arg9.IsWhole) (arg10 : Memref sig .tc .vmem S128x4096 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x4096 .bf16) (harg13 : arg13.IsWhole)
    (f1 : BufTy.Contents (Elt Ideal) arg1.view.ty) (f2 : BufTy.Contents (Elt Ideal) arg2.view.ty) (f3 : BufTy.Contents (Elt Ideal) arg3.view.ty) :
    iprop(held c arg1 f1 ∗ held c arg2 f2 ∗ held c arg3 f3 ∗ some' c arg4 ∗ some' c arg5 ∗ some' c arg6 ∗ some' c arg7 ∗ some' c arg8 ∗ some' c arg9
      ∗ some' c arg10 ∗ some' c arg11 ∗ some' c arg12 ∗ some' c arg13)
    ⊢ wp frame (wpE (defs₀ (F := Ideal)) 𝒱₀ (c : Thread nD τ) none) Set.univ (cc0_layernorm_fp8 (F := Ideal) i arg1 harg1 arg2 harg2 arg3 harg3 arg4 harg4 arg5 harg5 arg6 harg6 arg7 harg7 arg8 harg8 arg9 harg9 arg10 harg10 arg11 harg11 arg12 harg12 arg13 harg13)
      (fun _ => Res c arg1 arg2 arg3 arg4 arg5 arg6 arg7 arg8 arg9 arg10 arg11 arg12 arg13 f1 f2 f3 4) := by
  simp only [cc0_layernorm_fp8_eq_skeleton]; unfold cc0_layernorm_fp8_skel
  iintro ⟨H1, H2, H3, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩⟩
  have z5 := filledR_zero arg5 (rsK arg1 arg2 arg3 f1 f2 f3) f5
  have z6 := filledQ_zero arg6 (fun t => ccK arg1 arg2 arg3 t f1 f2 f3) f6
  have z7 := filledC_zero arg7 (csK arg1 arg2 arg3 f1 f2 f3) f7
  have z8 := filled_zero arg8 (fun t => sigK arg1 t f1) f8
  have z9 := filled_zero arg9 (fun t => muK arg1 t f1) f9
  by_cases h : Scalar.cmpi .ne (Scalar.extui (Scalar.cmpi .eq (BitVec.ofNat 32 (i 0).val) 0#32) : BitVec 32) 0#32 = 1#1
  · sl_exec
    sl_step
    sl_close
  · sl_exec
    sl_step
    sl_close

end Cert.Proof.Value

end
-- ==== Proof.Value.Run.lean ====
/- The kernel's launch over the reals, its statistics, scales and column codes named: each point leaves in its blocks the inverse
   deviations and the means of its rows, the scales of its groups and the codes of its columns, so the launch ends with the five
   result arrays at those of every row. -/
module

public import proofs.«01_k».proof.Proof.Value.Loop
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.ValueKit.Geometry

@[expose] public section

noncomputable section

namespace Cert.Proof.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- A row's mean as the kernel computes it: the sum of its 4096 elements times 2⁻¹². -/
def muF (x : Fin 4096 → EReal) : EReal := (∑ c, x c) * Ideal.ofBits .f32 0x39800000#32
/-- A row's inverse deviation as the kernel computes it. -/
def sigF (x : Fin 4096 → EReal) : EReal :=
  Ideal.rsqrt ((∑ c, (x c - muF x) * (x c - muF x)) * Ideal.ofBits .f32 0x39800000#32 + Ideal.ofBits .f32 0x3727C5AC#32)

/-- The row of the token block that a statistics' block names at `y`. -/
def rowOf (y : S1x4x1x128.Idx) : Fin 512 := ⟨128 * (y 1).val + (y 3).val, by
  have h1 : (y 1).val < 4 := (y 1).isLt
  have h3 : (y 3).val < 128 := (y 3).isLt
  omega⟩

/-- Row `y` of a block of 512 rows. -/
def blkRow (B : S512x4096.Idx → EReal) (y : S1x4x1x128.Idx) : Fin 4096 → EReal := fun cc => B (ix2 (rowOf y) cc)

/-- A scaled element of a row. -/
def yF (x g b : Fin 4096 → EReal) (c : Fin 4096) : EReal := (x c - muF x) * sigF x * g c + b c

/-- The scale of a row's group `n`, and of a column's group of 128 rows. -/
def rsF (x g b : Fin 4096 → EReal) (n : Fin 32) : EReal := scaleF (amax fun l => yF x g b ⟨128 * n.val + l.val, by omega⟩)
def csF (x : Fin 128 → Fin 4096 → EReal) (g b : Fin 4096 → EReal) (c : Fin 4096) : EReal := scaleF (amax fun r => yF (x r) g b c)

/-- The code of row `r` of a column's group of 128 rows. -/
def ccF (x : Fin 128 → Fin 4096 → EReal) (g b : Fin 4096 → EReal) (c : Fin 4096) (r : Fin 128) : EReal := codeF (yF (x r) g b c) (amax fun r => yF (x r) g b c)

/-- The codes of a block of 512 rows' columns. -/
def ccB (B : S512x4096.Idx → EReal) (G T : S1x4096.Idx → EReal) (y : S4096x512.Idx) : EReal :=
  ccF (fun r cc => B (ix2 ⟨128 * ((y 1).val / 128) + r.val, by have h1 : (y 1).val < 512 := (y 1).isLt; omega⟩ cc)) (fun cc => G (ix2 0 cc)) (fun cc => T (ix2 0 cc)) (y 0)
    ⟨(y 1).val % 128, by omega⟩

/-- The scales of a block of 512 rows. -/
def rsB (B : S512x4096.Idx → EReal) (G T : S1x4096.Idx → EReal) (y : S32x512.Idx) : EReal :=
  rsF (fun cc => B (ix2 (y 1) cc)) (fun cc => G (ix2 0 cc)) (fun cc => T (ix2 0 cc)) (y 0)
def csB (B : S512x4096.Idx → EReal) (G T : S1x4096.Idx → EReal) (y : S1x4x1x4096.Idx) : EReal :=
  csF (fun r cc => B (ix2 ⟨128 * (y 1).val + r.val, by have h1 : (y 1).val < 4 := (y 1).isLt; omega⟩ cc)) (fun cc => G (ix2 0 cc)) (fun cc => T (ix2 0 cc)) (y 3)

/-- The window whose contents are not named: the rows' codes. -/
def fgt : Fin 9 → Bool := fun w => decide (w.val = 3)

/-- The proof data: the arrays as the region finds them, the inputs' buffers left at their blocks, the outputs' unnamed. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Dat.unnamed (cfg := cfg0) ⟨3, h⟩ t
    | ⟨4, _⟩ => rsB (iblk m c 0 t) (iblk m c 1 t) (iblk m c 2 t)
    | ⟨5, _⟩ => ccB (iblk m c 0 t) (iblk m c 1 t) (iblk m c 2 t)
    | ⟨6, _⟩ => csB (iblk m c 0 t) (iblk m c 1 t) (iblk m c 2 t)
    | ⟨7, _⟩ => fun y => sigF (blkRow (iblk m c 0 t) y)
    | ⟨8, _⟩ => fun y => muF (blkRow (iblk m c 0 t) y)
  Φ _ := Pipeline.ΦA spec0 c
  q _ := fullShare
  owed _ := 0

theorem A_eq (c : Dev nD) (w : Fin cfg0.W) : (dats m 0 c).A w = V m c (Pipeline.arrRef spec0 w) := by
  dsimp only [dats]

theorem defs₀_row (t : Fin cfg0.N) :
    defs₀ (F := Ideal) .tc cfg0.body (cfg0.bodyArgs t (cfg0.slots t)) = bodyAt0 t := by
  unfold defs₀; rw [Defs.onTc_tc]

/-- What a point's body is called with, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X) ∗ (∃ d, owns (c : Thread nD τ) (st0_4 t) fullShare ((dats m 0 c).before 4 t d))
    ∗ (∃ d, owns (c : Thread nD τ) (st0_5 t) fullShare ((dats m 0 c).before 5 t d)) ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ (∃ X, owns (c : Thread nD τ) (st0_3 t) fullShare X) ∗ owns (c : Thread nD τ) (st0_4 t) fullShare (rsB (iblk m c 0 t) (iblk m c 1 t) (iblk m c 2 t))
    ∗ owns (c : Thread nD τ) (st0_5 t) fullShare (ccB (iblk m c 0 t) (iblk m c 1 t) (iblk m c 2 t)) ∗ owns (c : Thread nD τ) (st0_6 t) fullShare (csB (iblk m c 0 t) (iblk m c 1 t) (iblk m c 2 t))
    ∗ owns (c : Thread nD τ) (st0_7 t) fullShare (fun y => sigF (blkRow (iblk m c 0 t) y))
    ∗ owns (c : Thread nD τ) (st0_8 t) fullShare (fun y => muF (blkRow (iblk m c 0 t) y)))

theorem some'_of_owns (c : Dev nD) {s : Shape} {e : EltTy} (M : Memref sig .tc .vmem s e) :
    iprop(∃ X, owns (c : Thread nD τ) M fullShare X) ⊢ (some' c M : sProp 𝕄) := by
  unfold owns; iintro ⟨%X, %f, -, H⟩; iexists f; iexact H
theorem owns_of_some' (c : Dev nD) {s : Shape} {e : EltTy} (M : Memref sig .tc .vmem s e) :
    (some' c M : sProp 𝕄) ⊢ iprop(∃ X, owns (c : Thread nD τ) M fullShare X) := by
  unfold owns; iintro ⟨%f, H⟩; iexists _, f; isplitr
  · ipureintro; rfl
  iexact H

/-- A whole scratch buffer at some contents, as the launch states it and as the body names it. -/
theorem some'_of_whole (c : Dev nD) (b : Ref sig .tc) :
    iprop(∃ f : Buf (Elt Ideal) ((c : Thread nD τ).loc b), ((c : Thread nD τ).loc b) ↦{fullShare} f)
      ⊢ (iprop(∃ f, (Memref.whole b).view.loc (c : Thread nD τ) ↦[(Memref.whole b).view.set]{fullShare} f) : sProp 𝕄) := by
  rw [Memref.view_whole, View.set_whole]
theorem whole_of_some' (c : Dev nD) (b : Ref sig .tc) :
    (iprop(∃ f, (Memref.whole b).view.loc (c : Thread nD τ) ↦[(Memref.whole b).view.set]{fullShare} f) : sProp 𝕄)
      ⊢ iprop(∃ f : Buf (Elt Ideal) ((c : Thread nD τ).loc b), ((c : Thread nD τ).loc b) ↦{fullShare} f) := by
  rw [Memref.view_whole, View.set_whole]

theorem some'_of_before (c : Dev nD) {s : Shape} {e : EltTy} (M : Memref sig .tc .vmem s e) {D : Type} (B : D → s.Idx → Elt Ideal e) :
    iprop(∃ d, owns (c : Thread nD τ) M fullShare (B d)) ⊢ (some' c M : sProp 𝕄) := by
  unfold owns; iintro ⟨%d, %f, -, H⟩; iexists f; iexact H

/-- A statistics' buffer with every row filled is at the statistic of every row. -/
theorem read_of_filled {M : Memref sig .tc .vmem S1x4x1x128 .f32} {S : (Fin 4096 → EReal) → EReal} {A : Memref sig .tc .vmem S512x4096 .bf16}
    {f1 : BufTy.Contents (Elt Ideal) A.view.ty} {B : S512x4096.Idx → EReal} (e : A.view.read (Elt Ideal) f1 = B) {f : BufTy.Contents (Elt Ideal) M.view.ty}
    (h : Filled M (fun t r => S (Xk A t f1 r)) 4 f) : M.view.read (Elt Ideal) f = fun y => S (blkRow B y) := by
  subst e
  funext y
  have hy : y = ix4 0 ⟨(y 1).val, (y 1).isLt⟩ 0 (y 3) := by
    funext a
    match a with
    | ⟨0, _⟩ => exact Subsingleton.elim (α := Fin 1) _ _
    | ⟨1, _⟩ => rfl
    | ⟨2, _⟩ => exact Subsingleton.elim (α := Fin 1) _ _
    | ⟨3, _⟩ => rfl
  rw [hy]
  exact h ⟨(y 1).val, (y 1).isLt⟩ (y 1).isLt (y 3)

/-- An index of a buffer of row scales, its row written by its trip and its row there. -/
theorem split512 (y : S32x512.Idx) : ∃ (t : Fin k0_t1_loop.trips) (r : Fin 128), y = ix2 (y 0) ⟨128 * t.val + r.val, by have := lt4 t; omega⟩ := by
  have h1 : (y 1).val < 512 := (y 1).isLt
  have h2 : (y 1).val / 128 < 4 := by omega
  refine ⟨⟨(y 1).val / 128, h2⟩, ⟨(y 1).val % 128, by omega⟩, ?_⟩
  funext a
  match a with
  | ⟨0, _⟩ => rfl
  | ⟨1, _⟩ => exact Fin.ext (show (y 1).val = 128 * ((y 1).val / 128) + (y 1).val % 128 from (Nat.div_add_mod _ _).symm)

theorem split512c (y : S4096x512.Idx) : ∃ h : (y 1).val / 128 < 4, y = ix2 (y 0) ⟨128 * ((y 1).val / 128) + (y 1).val % 128, by omega⟩ := by
  have h1 : (y 1).val < 512 := (y 1).isLt
  refine ⟨by omega, ?_⟩
  funext a
  match a with
  | ⟨0, _⟩ => rfl
  | ⟨1, _⟩ => exact Fin.ext (show (y 1).val = 128 * ((y 1).val / 128) + (y 1).val % 128 from (Nat.div_add_mod _ _).symm)

section
variable {A : Memref sig .tc .vmem S512x4096 .bf16} {G T : Memref sig .tc .vmem S1x4096 .f32}
    {f1 : BufTy.Contents (Elt Ideal) A.view.ty} {f2 : BufTy.Contents (Elt Ideal) G.view.ty} {f3 : BufTy.Contents (Elt Ideal) T.view.ty}
    {B : S512x4096.Idx → EReal} {GB TB : S1x4096.Idx → EReal}
    (e1 : A.view.read (Elt Ideal) f1 = B) (e2 : G.view.read (Elt Ideal) f2 = GB) (e3 : T.view.read (Elt Ideal) f3 = TB)
include e1 e2 e3

/-- The buffers of scales with every trip's part filled are at the scales of the block. -/
theorem read_of_filledR {M : Memref sig .tc .vmem S32x512 .f32} {f : BufTy.Contents (Elt Ideal) M.view.ty}
    (h : FilledR M (rsK A G T f1 f2 f3) 4 f) : M.view.read (Elt Ideal) f = rsB B GB TB := by
  subst e1 e2 e3
  funext y
  obtain ⟨t, r, hy⟩ := split512 y
  rw [hy]
  exact h t (lt4 t) (y 0) r
theorem read_of_filledQ {M : Memref sig .tc .vmem S4096x512 .fp8e4m3} {f : BufTy.Contents (Elt Ideal) M.view.ty}
    (h : FilledQ M (fun t => ccK A G T t f1 f2 f3) 4 f) : M.view.read (Elt Ideal) f = ccB B GB TB := by
  subst e1 e2 e3
  funext y
  obtain ⟨h4, hy⟩ := split512c y
  exact (congrArg (M.view.read (Elt Ideal) f) hy).trans (h ⟨(y 1).val / 128, h4⟩ h4 (y 0) ⟨(y 1).val % 128, by omega⟩)
theorem read_of_filledC {M : Memref sig .tc .vmem S1x4x1x4096 .f32} {f : BufTy.Contents (Elt Ideal) M.view.ty}
    (h : FilledC M (csK A G T f1 f2 f3) 4 f) : M.view.read (Elt Ideal) f = csB B GB TB := by
  subst e1 e2 e3
  funext y
  have hy : y = ix4 0 ⟨(y 1).val, (y 1).isLt⟩ 0 (y 3) := by
    funext a
    match a with
    | ⟨0, _⟩ => exact Subsingleton.elim (α := Fin 1) _ _
    | ⟨1, _⟩ => rfl
    | ⟨2, _⟩ => exact Subsingleton.elim (α := Fin 1) _ _
    | ⟨3, _⟩ => rfl
  exact (congrArg (M.view.read (Elt Ideal) f) hy).trans (h ⟨(y 1).val, (y 1).isLt⟩ (y 1).isLt (y 3))
end

theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  have h0 := before0_0_of m (dats m 0 c) (A_eq m c 0) (fun t => rfl) t
  have h1 := before0_1_of m (dats m 0 c) (A_eq m c 1) (fun t => rfl) t
  have h2 := before0_2_of m (dats m 0 c) (A_eq m c 2) (fun t => rfl) t
  simp only [h0, h1, h2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  iintro ⟨⟨⟨HS0, HS1, HS2, HS3⟩, Hg⟩, Ho, ⟨%d0, H0⟩, ⟨%d1, H1⟩, ⟨%d2, H2⟩, H3, H4, H5, H6, H7, H8⟩
  ihave H3 := some'_of_owns c _ $$ H3
  ihave H4 := some'_of_before c _ _ $$ H4
  ihave H5 := some'_of_before c _ _ $$ H5
  ihave H6 := some'_of_before c _ _ $$ H6
  ihave H7 := some'_of_before c _ _ $$ H7
  ihave H8 := some'_of_before c _ _ $$ H8
  unfold owns
  icases H0 with ⟨%f1, %e1, H0⟩
  icases H1 with ⟨%f2, %e2, H1⟩
  icases H2 with ⟨%f3, %e3, H2⟩
  iapply (wp_wand_r frame (wpE (defs₀ (F := Ideal)) 𝒱₀ (c : Thread nD τ) none) Set.univ)
  isplitl [H0 H1 H2 H3 H4 H5 H6 H7 H8 HS0 HS1 HS2 HS3]
  · iapply (kernelRun c (grid0.coords t) (st0_0 t) _ (st0_1 t) _ (st0_2 t) _ (st0_3 t) _ (st0_4 t) _ (st0_5 t) _ (st0_6 t) _ (st0_7 t) _ (st0_8 t) _
      (Memref.whole cc0_scratch0) _ (Memref.whole cc0_scratch1) _ (Memref.whole cc0_scratch2) _ (Memref.whole cc0_scratch3) _ f1 f2 f3)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iapply (some'_of_whole c cc0_scratch0); iexact HS0
    isplitl [HS1]; · iapply (some'_of_whole c cc0_scratch1); iexact HS1
    isplitl [HS2]; · iapply (some'_of_whole c cc0_scratch2); iexact HS2
    iapply (some'_of_whole c cc0_scratch3); iexact HS3
  iintro %u ⟨H0, H1, H2, H3, ⟨%f5, %e5, H4⟩, ⟨%f6, %e6, H5⟩, ⟨%f7, %e7, H6⟩, ⟨%f8, %e8, H7⟩, ⟨%f9, %e9, H8⟩, HS0, HS1, HS2, HS3⟩
  isplitl [HS0 HS1 HS2 HS3 Hg]
  · isplitl [HS0 HS1 HS2 HS3]
    · isplitl [HS0]; · iapply (whole_of_some' c cc0_scratch0); iexact HS0
      isplitl [HS1]; · iapply (whole_of_some' c cc0_scratch1); iexact HS1
      isplitl [HS2]; · iapply (whole_of_some' c cc0_scratch2); iexact HS2
      iapply (whole_of_some' c cc0_scratch3); iexact HS3
    iexact Hg
  isplitl [Ho]; · iexact Ho
  isplitl [H0]
  · iexists f1; isplitr
    · ipureintro; exact e1
    iexact H0
  isplitl [H1]
  · iexists f2; isplitr
    · ipureintro; exact e2
    iexact H1
  isplitl [H2]
  · iexists f3; isplitr
    · ipureintro; exact e3
    iexact H2
  isplitl [H3]; · iapply (owns_of_some' c (st0_3 t)); iexact H3
  isplitl [H4]
  · iexists f5; isplitr
    · ipureintro; exact read_of_filledR e1 e2 e3 e5
    iexact H4
  isplitl [H5]
  · iexists f6; isplitr
    · ipureintro; exact read_of_filledQ e1 e2 e3 e6
    iexact H5
  isplitl [H6]
  · iexists f7; isplitr
    · ipureintro; exact read_of_filledC e1 e2 e3 e7
    iexact H6
  isplitl [H7]
  · iexists f8; isplitr
    · ipureintro; exact read_of_filled (S := sigF) e1 e8
    iexact H7
  iexists f9; isplitr
  · ipureintro; exact read_of_filled (S := muF) e1 e9
  iexact H8

theorem body_obligation (c : Dev nD) : BodyObligationLoose (dats m 0 c) (defs₀ (F := Ideal)) Variants.none () Set.univ fgt := fun t => by
  rw [bigSep_W0, bigSep_W0, defs₀_row]
  exact triple_restated (sound_body m c t) rfl .rfl fun _ => .rfl

set_option backward.isDefEq.respectTransparency.types false in
theorem run_main : θ_run defs (onTc (τ := τ) (main (F := Ideal))) (s₀ m ρ)
    (fun r => Pipeline.RDat.FramePost (cfgs 0) (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m)
    (hmain := hmain m Variants.none) (hA := A_eq m) (hΦ := fun _ _ => rfl) (hQ' := fun _ h => h)

/-- The tokens as the region finds them: one row per token. -/
abbrev X0 (c : Dev nD) : S30720x4096.Idx → EReal := V m c main_v0

/-- The token of a statistics' result at `i`. -/
def tok (i : S60x4x1x128.Idx) : Fin 30720 := ⟨((i 0).val * 4 + (i 1).val) * 128 + (i 3).val, by
  have h0 : (i 0).val < 60 := (i 0).isLt
  have h1 : (i 1).val < 4 := (i 1).isLt
  have h3 : (i 3).val < 128 := (i 3).isLt
  omega⟩

/-- A statistic of every token's row. -/
def stat (S : (Fin 4096 → EReal) → EReal) (x : S30720x4096.Idx → EReal) (i : S60x4x1x128.Idx) : EReal := S fun cc => x (ix2 (tok i) cc)

theorem index0 : ∀ t : Fin cfg0.N, win0_0.index t = ![(grid0.coords t 0).val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index4 : ∀ t : Fin cfg0.N, win0_4.index t = ![0, (grid0.coords t 0).val] := (by decide +kernel : ∀ t : Fin grid0.N, _)
theorem index5 : ∀ t : Fin cfg0.N, win0_5.index t = ![0, (grid0.coords t 0).val] := (by decide +kernel : ∀ t : Fin grid0.N, _)
theorem index6 : ∀ t : Fin cfg0.N, win0_6.index t = ![(grid0.coords t 0).val, 0, 0, 0] := (by decide +kernel : ∀ t : Fin grid0.N, _)
theorem index7 : ∀ t : Fin cfg0.N, win0_7.index t = ![(grid0.coords t 0).val, 0, 0, 0] := (by decide +kernel : ∀ t : Fin grid0.N, _)
theorem index8 : ∀ t : Fin cfg0.N, win0_8.index t = ![(grid0.coords t 0).val, 0, 0, 0] := (by decide +kernel : ∀ t : Fin grid0.N, _)

theorem final_sig (c : Dev nD) : (dats m 0 c).arrAt 7 cfg0.N = stat sigF (X0 m c) := by
  refine (dats m 0 c).arrAt_eq_of_covers 7 _ (by decide +kernel) fun t hf y => ?_
  blk_simp
  show sigF (blkRow (iblk m c 0 t) y) = stat sigF (X0 m c) _
  unfold stat blkRow
  refine congrArg sigF (funext fun cc => ?_)
  blk_simp [iblk]
  refine congrArg (V m c main_v0) ?_
  idx_bounds y
  blk_ext [index0, index7, rowOf, tok]

theorem final_mu (c : Dev nD) : (dats m 0 c).arrAt 8 cfg0.N = stat muF (X0 m c) := by
  refine (dats m 0 c).arrAt_eq_of_covers 8 _ (by decide +kernel) fun t hf y => ?_
  blk_simp
  show muF (blkRow (iblk m c 0 t) y) = stat muF (X0 m c) _
  unfold stat blkRow
  refine congrArg muF (funext fun cc => ?_)
  blk_simp [iblk]
  refine congrArg (V m c main_v0) ?_
  idx_bounds y
  blk_ext [index0, index8, rowOf, tok]

/-- The gain and the shift as the region finds them. -/
abbrev G0 (c : Dev nD) : Fin 4096 → EReal := fun cc => (V m c main_v2 : S1x4096.Idx → EReal) (ix2 0 cc)
abbrev T0 (c : Dev nD) : Fin 4096 → EReal := fun cc => (V m c main_v4 : S1x4096.Idx → EReal) (ix2 0 cc)

/-- The scales of every row's groups, and of every column's. -/
def rsR (x : S30720x4096.Idx → EReal) (g b : Fin 4096 → EReal) (i : S32x30720.Idx) : EReal := rsF (fun cc => x (ix2 (i 1) cc)) g b (i 0)
def csR (x : S30720x4096.Idx → EReal) (g b : Fin 4096 → EReal) (i : S60x4x1x4096.Idx) : EReal :=
  csF (fun r cc => x (ix2 ⟨((i 0).val * 4 + (i 1).val) * 128 + r.val, by
    have h0 : (i 0).val < 60 := (i 0).isLt
    have h1 : (i 1).val < 4 := (i 1).isLt
    omega⟩ cc)) g b (i 3)

/-- The codes of every column. -/
def ccR (x : S30720x4096.Idx → EReal) (g b : Fin 4096 → EReal) (i : S4096x30720.Idx) : EReal :=
  ccF (fun r cc => x (ix2 ⟨128 * ((i 1).val / 128) + r.val, by
    have h1 : (i 1).val < 30720 := (i 1).isLt
    omega⟩ cc)) g b (i 0) ⟨(i 1).val % 128, by omega⟩

theorem gain_blk (c : Dev nD) (t : Fin cfg0.N) (cc : Fin 4096) : (iblk m c 1 t : S1x4096.Idx → EReal) (ix2 0 cc) = G0 m c cc := by
  blk_simp [iblk]
  refine congrArg (V m c main_v2) ?_
  blk_ext [index1]
theorem shift_blk (c : Dev nD) (t : Fin cfg0.N) (cc : Fin 4096) : (iblk m c 2 t : S1x4096.Idx → EReal) (ix2 0 cc) = T0 m c cc := by
  blk_simp [iblk]
  refine congrArg (V m c main_v4) ?_
  blk_ext [index2]

theorem final_rs (c : Dev nD) : (dats m 0 c).arrAt 4 cfg0.N = rsR (X0 m c) (G0 m c) (T0 m c) := by
  refine (dats m 0 c).arrAt_eq_of_covers 4 _ (by decide +kernel) fun t hf y => ?_
  blk_simp
  show rsB (iblk m c 0 t) (iblk m c 1 t) (iblk m c 2 t) y = rsR (X0 m c) (G0 m c) (T0 m c) _
  unfold rsB rsR
  rw [funext (gain_blk m c t), funext (shift_blk m c t)]
  idx_bounds y
  have hn : (win0_4.blk t).view.emb y 0 = y 0 := congrFun (show (win0_4.blk t).view.emb y = ix2 (y 0) ⟨(grid0.coords t 0).val * 512 + (y 1).val, by
    have h0 : (grid0.coords t 0).val < 60 := (grid0.coords t 0).isLt
    have h1 : (y 1).val < 512 := (y 1).isLt
    omega⟩ by blk_ext [index4]) 0
  rw [hn]
  refine congrArg (fun x => rsF x (G0 m c) (T0 m c) (y 0)) (funext fun cc => ?_)
  · blk_simp [iblk]
    refine congrArg (V m c main_v0) ?_
    blk_ext [index0, index4]

theorem final_cs (c : Dev nD) : (dats m 0 c).arrAt 6 cfg0.N = csR (X0 m c) (G0 m c) (T0 m c) := by
  refine (dats m 0 c).arrAt_eq_of_covers 6 _ (by decide +kernel) fun t hf y => ?_
  blk_simp
  show csB (iblk m c 0 t) (iblk m c 1 t) (iblk m c 2 t) y = csR (X0 m c) (G0 m c) (T0 m c) _
  unfold csB csR
  rw [funext (gain_blk m c t), funext (shift_blk m c t)]
  idx_bounds y
  have hn : (win0_6.blk t).view.emb y 3 = y 3 := congrFun (show (win0_6.blk t).view.emb y = ix4 ⟨(grid0.coords t 0).val, (grid0.coords t 0).isLt⟩ (y 1) (y 2) (y 3) by
    blk_ext [index6]) 3
  rw [hn]
  refine congrArg (fun x => csF x (G0 m c) (T0 m c) (y 3)) (funext fun r => funext fun cc => ?_)
  · blk_simp [iblk]
    refine congrArg (V m c main_v0) ?_
    blk_ext [index0, index6]

theorem final_cc (c : Dev nD) : (dats m 0 c).arrAt 5 cfg0.N = ccR (X0 m c) (G0 m c) (T0 m c) := by
  refine (dats m 0 c).arrAt_eq_of_covers 5 _ (by decide +kernel) fun t hf y => ?_
  blk_simp
  show ccB (iblk m c 0 t) (iblk m c 1 t) (iblk m c 2 t) y = ccR (X0 m c) (G0 m c) (T0 m c) _
  have h0 : (grid0.coords t 0).val < 60 := (grid0.coords t 0).isLt
  have h1 : (y 1).val < 512 := (y 1).isLt
  have hy : (win0_5.blk t).view.emb y = ix2 (y 0) ⟨(grid0.coords t 0).val * 512 + (y 1).val, by omega⟩ := by
    idx_bounds y
    blk_ext [index5]
  refine Eq.trans ?_ (congrArg (ccR (X0 m c) (G0 m c) (T0 m c)) hy).symm
  unfold ccB ccR
  rw [funext (gain_blk m c t), funext (shift_blk m c t)]
  have hr : (⟨(y 1).val % 128, by omega⟩ : Fin 128) = ⟨((grid0.coords t 0).val * 512 + (y 1).val) % 128, by omega⟩ := Fin.ext (by
    show (y 1).val % 128 = ((grid0.coords t 0).val * 512 + (y 1).val) % 128
    omega)
  refine congrArg₂ (fun x r => ccF x (G0 m c) (T0 m c) (y 0) r) (funext fun r => funext fun cc => ?_) hr
  have hq : ((grid0.coords t 0).val * 512 + (y 1).val) / 128 = (grid0.coords t 0).val * 4 + (y 1).val / 128 := by omega
  show (iblk m c 0 t : S512x4096.Idx → EReal) _ = X0 m c (ix2 ⟨128 * (((grid0.coords t 0).val * 512 + (y 1).val) / 128) + r.val, _⟩ cc)
  blk_simp [iblk]
  refine congrArg (V m c main_v0) ?_
  have hd : (y 1).val / 128 < 4 := by omega
  blk_ext [index0, hq]

/-- The gain and the shift at the region's entry are the arguments. -/
theorem G0_eq (c : Dev nD) (cc : Fin 4096) : G0 m c cc = m ((c.tc : Thread nD τ).loc main_arg1) (ix1 cc) := by
  have e : V m c main_v2 = shapeCast S1x4096 (m ((c.tc : Thread nD τ).loc main_arg1) : S4096.Idx → EReal) shapeCasts_S4096_S1x4096 := by
    show StableHlo.after hostOps0 _ (Proc.devRef .tc main_v2) = _
    after_results
    rfl
  show (V m c main_v2 : S1x4096.Idx → EReal) (ix2 0 cc) = _
  rw [e]
  exact shapeCast_apply _ shapeCasts_S4096_S1x4096 (ix2 0 cc) (ix1 cc) (by simp [Shape.rowMajor_val_two, Shape.rowMajor_val_one])
theorem T0_eq (c : Dev nD) (cc : Fin 4096) : T0 m c cc = m ((c.tc : Thread nD τ).loc main_arg2) (ix1 cc) := by
  have e : V m c main_v4 = shapeCast S1x4096 (m ((c.tc : Thread nD τ).loc main_arg2) : S4096.Idx → EReal) shapeCasts_S4096_S1x4096 := by
    show StableHlo.after hostOps0 _ (Proc.devRef .tc main_v4) = _
    after_results
    rfl
  show (V m c main_v4 : S1x4096.Idx → EReal) (ix2 0 cc) = _
  rw [e]
  exact shapeCast_apply _ shapeCasts_S4096_S1x4096 (ix2 0 cc) (ix1 cc) (by simp [Shape.rowMajor_val_two, Shape.rowMajor_val_one])

/-- The tokens at the region's entry are the argument's elements in row-major order. -/
theorem X0_eq (c : Dev nD) : X0 m c = shapeCast _ (m ((c.tc : Thread nD τ).loc main_arg0)) shapeCasts_S30x1024x4096_S30720x4096 := by
  show StableHlo.after hostOps0 _ (Proc.devRef .tc main_v0) = _
  after_results
  rfl

/-- The launch over the reals: it ends with the scales, the columns' codes and the two statistics of every token, the arguments unchanged, every semaphore at zero. -/
theorem run : θ_run defs (onTc (τ := τ) (main (F := Ideal))) ⟨m, fun _ => 0, ρ⟩ (fun r => ∀ c : Dev nD,
      r.2.mem ((c.tc : Thread nD τ).loc main_v5_1) = rsR (X0 m c) (G0 m c) (T0 m c)
      ∧ r.2.mem ((c.tc : Thread nD τ).loc main_v5_2) = ccR (X0 m c) (G0 m c) (T0 m c)
      ∧ r.2.mem ((c.tc : Thread nD τ).loc main_v5_3) = csR (X0 m c) (G0 m c) (T0 m c)
      ∧ r.2.mem ((c.tc : Thread nD τ).loc main_v5_4) = stat sigF (X0 m c)
      ∧ r.2.mem ((c.tc : Thread nD τ).loc main_v5_5) = stat muF (X0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      (((dats m 0 c).toRForget_arrAt_iff (fgt := fgt) (w := 4) rfl _ _).mp ((h.1 c).1 4)).trans (final_rs m c),
      (((dats m 0 c).toRForget_arrAt_iff (fgt := fgt) (w := 5) rfl _ _).mp ((h.1 c).1 5)).trans (final_cc m c),
      (((dats m 0 c).toRForget_arrAt_iff (fgt := fgt) (w := 6) rfl _ _).mp ((h.1 c).1 6)).trans (final_cs m c),
      (((dats m 0 c).toRForget_arrAt_iff (fgt := fgt) (w := 7) rfl _ _).mp ((h.1 c).1 7)).trans (final_sig m c),
      (((dats m 0 c).toRForget_arrAt_iff (fgt := fgt) (w := 8) rfl _ _).mp ((h.1 c).1 8)).trans (final_mu m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩)
    (run_main m ρ)

end Cert.Proof.Value

end
-- ==== Proof.Value.Ref.lean ====
/- What the reference computes, read at an index: the statistics of a token's row, the scales of its groups and of the columns', and
   the columns' codes. -/
module

public import proofs.«01_k».proof.Proof.Gen.ReferenceIdeal.Run
public import proofs.«01_k».proof.Proof.Gen.ReferenceIdeal.Read
public import proofs.«01_k».proof.Proof.Value.RefPre
public import proofs.«01_k».proof.Proof.Value.Run

@[expose] public section

noncomputable section

namespace Cert.Proof.Value.Ref

open Cert.ReferenceIdeal Cert.ReferenceIdeal.Gen Cert.ReferenceIdeal.Read
open Idealize.ShloMosaic Idealize.ShloMosaic.TcCoe Idealize.SL.Sem

theorem zero_lit : Ideal.ofBits .f32 0x00000000#32 = 0 := by
  simp [Ideal.ofBits, Ideal.ieee, -EReal.coe_mul]
theorem n_lit : Ideal.ofBits .f32 0x45800000#32 = ((4096 : ℝ) : EReal) := by
  simp [Ideal.ofBits, Ideal.ieee, -EReal.coe_mul]; norm_num
theorem inv_lit : Ideal.ofBits .f32 0x39800000#32 = ((1 / 4096 : ℝ) : EReal) := by
  simp [Ideal.ofBits, Ideal.ieee, -EReal.coe_mul]; norm_num

/-- Dividing by a row's length is multiplying by the kernel's constant. -/
theorem div_n (x : EReal) : Ideal.div x (Ideal.ofBits .f32 0x45800000#32) = x * Ideal.ofBits .f32 0x39800000#32 := by
  rw [n_lit, Ideal.div_coe (by norm_num), inv_lit]

variable (x0 : (⟨S30x1024x4096, .bf16⟩ : BufTy).Contents (Elt Ideal))

/-- A token's row, as the reference flattens its argument. -/
def row (r : Fin 30720) : Fin 4096 → EReal := fun cc => val_main_v0 (F := Ideal) x0 (ix2 r cc)

theorem v1_eq (i : S30720.Idx) (k : Fin 4096) : val_main_v1 (F := Ideal) x0 (idx_main_v2 i k) = row x0 (i 0) k :=
  congrArg (val_main_v0 (F := Ideal) x0) (funext fun a => match a with | ⟨0, _⟩ => rfl | ⟨1, _⟩ => rfl)

theorem mean_eq (i : S30720.Idx) : val_main_v4 (F := Ideal) x0 i = muF (row x0 (i 0)) := by
  rw [val_main_v4_apply, Ideal.hostDivf_def, val_main_v3_apply, val_main_cst_0_apply, Ideal.ofBits_def, div_n, val_main_v2_apply,
    val_main_cst_apply, Ideal.ofBits_def, zero_lit, zero_add, muF]
  exact congrArg (· * _) (Finset.sum_congr rfl fun k _ => v1_eq x0 i k)

theorem centred_eq (i : S30720.Idx) (k : Fin 4096) :
    val_main_v7 (F := Ideal) x0 (idx_main_v9 i k) = row x0 (i 0) k - muF (row x0 (i 0)) := by
  rw [val_main_v7_apply, Ideal.subf_def, val_main_v6_apply, val_main_v5_apply, mean_eq]
  exact congrArg (· - _) (v1_eq x0 i k)

theorem sigma_eq (i : S30720.Idx) : val_main_v14 (F := Ideal) x0 i = sigF (row x0 (i 0)) := by
  rw [val_main_v14_apply, Ideal.hostUnary_rsqrt_def, val_main_v13_apply, Ideal.addf_def, val_main_v12_apply, val_main_cst_3_apply, Ideal.ofBits_def,
    val_main_v11_apply, Ideal.hostDivf_def, val_main_v10_apply, val_main_cst_2_apply, Ideal.ofBits_def, div_n, val_main_v9_apply,
    val_main_cst_1_apply, Ideal.ofBits_def, zero_lit, zero_add, sigF]
  refine congrArg (fun s => Ideal.rsqrt (s * _ + _)) (Finset.sum_congr rfl fun k _ => ?_)
  rw [val_main_v8_apply, Ideal.mulf_def, centred_eq]

theorem tok_eq (i : S60x4x1x128.Idx) : (idx_main_v71 i) 0 = tok i := Fin.ext (by
  have h2 : (i 2).val < 1 := (i 2).isLt
  show (((i 0).val * 4 + (i 1).val) * 1 + (i 2).val) * 128 + (i 3).val = ((i 0).val * 4 + (i 1).val) * 128 + (i 3).val
  omega)

theorem sig_eq : val_main_v71 (F := Ideal) (val_main_v14 (F := Ideal) x0) = stat sigF (val_main_v0 (F := Ideal) x0) := by
  funext i
  rw [val_main_v71_apply, sigma_eq, tok_eq]; rfl

theorem mu_eq : val_main_v72 (F := Ideal) (val_main_v4 (F := Ideal) x0) = stat muF (val_main_v0 (F := Ideal) x0) := by
  funext i
  rw [val_main_v72_apply, mean_eq]
  exact congrArg (fun r => muF (row x0 r)) (tok_eq i)

/-! ### The scales -/

theorem one_lit : Ideal.ofBits .f32 0x3F800000#32 = 1 := by
  refine Eq.trans (b := ((1 : ℝ) : EReal)) ?_ EReal.coe_one
  simp [Ideal.ofBits, Ideal.ieee, -EReal.coe_mul, -EReal.coe_one]; norm_num

/-- The reference's two choices. -/
theorem pick_zero (a x : EReal) : Scalar.select (Ideal.cmp .oeq a 0) 1 x = if a = 0 then 1 else x := select_dec (a = 0) 1 x
theorem pick_above (p v a b : EReal) : Scalar.select (Ideal.cmp .ogt p v) a b = if v < p then a else b := select_dec (v < p) a b
theorem low_lit : Ideal.ofBits .f32 0x42FC0000#32 = ((126 : ℝ) : EReal) := by
  simp [Ideal.ofBits, Ideal.ieee, -EReal.coe_mul]; norm_num
theorem two_lit : Ideal.ofBits .f32 0x40000000#32 = ((2 : ℝ) : EReal) := by
  simp [Ideal.ofBits, Ideal.ieee, -EReal.coe_mul]; norm_num
theorem top_lit : Ideal.ofBits .f32 0x7F000000#32 = P 253 := by
  unfold P
  simp [Ideal.ofBits, Ideal.ieee, -EReal.coe_mul, -EReal.coe_pow]; norm_num

/-- The reference's powers of two. -/
theorem pow_two (e : Fin 254) : Ideal.pow (Ideal.ofBits .f32 0x40000000#32) ((((BitVec.ofNat 32 e.val).toInt : ℝ) : EReal) - Ideal.ofBits .f32 0x42FC0000#32) = P e.val := by
  have he : (BitVec.ofNat 32 e.val).toInt = (e.val : ℤ) := by
    have h := e.isLt
    rw [BitVec.toInt_eq_toNat_of_lt (by rw [BitVec.toNat_ofNat]; omega), BitVec.toNat_ofNat]
    omega
  rw [he, two_lit, low_lit, ← EReal.coe_sub, Ideal.pow_coe_coe]
  unfold P
  rw [← Real.rpow_intCast]
  refine congrArg (fun y => ((Real.rpow 2 y : ℝ) : EReal)) ?_
  push_cast
  ring

theorem v33_eq (i : S240x254x4096.Idx) : val_main_v33 (F := Ideal) i = P (i 1).val := by
  rw [val_main_v33_apply, Ideal.hostPowf_def, val_main_v32_apply, val_main_cst_6_apply, val_main_v31_apply, Ideal.subf_def, val_main_v30_apply, val_main_cst_5_apply]
  exact pow_two (i 1)
theorem v57_eq (i : S30720x32x254.Idx) : val_main_v57 (F := Ideal) i = P (i 2).val := by
  rw [val_main_v57_apply, Ideal.hostPowf_def, val_main_v56_apply, val_main_cst_14_apply, val_main_v55_apply, Ideal.subf_def, val_main_v54_apply, val_main_cst_13_apply]
  exact pow_two (i 2)

section
variable (x1 x2 : (⟨S4096, .bf16⟩ : BufTy).Contents (Elt Ideal))

/-- A scaled element, as the reference computes it. -/
def yR (r : Fin 30720) : Fin 4096 → EReal := yF (row x0 r) (fun cc => x1 (ix1 cc)) (fun cc => x2 (ix1 cc))

theorem y_eq (r : Fin 30720) (cc : Fin 4096) : val_main_v25 (F := Ideal) x0 x1 x2 (ix2 r cc) = yR x0 x1 x2 r cc := by
  have h7 : val_main_v7 (F := Ideal) x0 (ix2 r cc) = row x0 r cc - muF (row x0 r) := by
    refine Eq.trans (congrArg _ ?_) (centred_eq x0 (ix1 r) cc)
    exact funext fun a => match a with | ⟨0, _⟩ => rfl | ⟨1, _⟩ => rfl
  rw [val_main_v25_apply, Ideal.addf_def, val_main_v21_apply, Ideal.mulf_def, val_main_v17_apply, Ideal.mulf_def, h7, val_main_v16_apply, val_main_v15_apply,
    sigma_eq, val_main_v20_apply, val_main_v19_apply, val_main_v18_apply, Ideal.extf_def, val_main_v24_apply, val_main_v23_apply, val_main_v22_apply, Ideal.extf_def]
  have e : ∀ i : S4096.Idx, i 0 = cc → i = ix1 cc := fun i h => funext fun a => match a with | ⟨0, _⟩ => h
  rw [e (idx_main_v19 _) rfl, e (idx_main_v23 _) rfl]
  rfl

theorem redR : S30720x32x128.Reduces [2] S30720x32 := by decide
theorem redRe : S30720x32x254.Reduces [2] S30720x32 := by decide
theorem redC : S240x128x4096.Reduces [1] S240x4096 := by decide
theorem redCe : S240x254x4096.Reduces [1] S240x4096 := by decide

/-- The largest magnitude of a row's group. -/
theorem v52_eq (r : Fin 30720) (n : Fin 32) : val_main_v52 (F := Ideal) (val_main_v25 (F := Ideal) x0 x1 x2) (ix2 r n)
    = amax fun l => yR x0 x1 x2 r ⟨128 * n.val + l.val, by omega⟩ := by
  unfold val_main_v52 amax
  refine (Host.reduce_eq_fold_single _ _ _ _ redR _ _).trans ?_
  refine congrArg (Finset.fold max _ · Finset.univ) (funext fun (l : Fin 128) => ?_)
  have e : idx_main_v50 (redR.lift (ix2 r n) l) = ix2 r ⟨128 * n.val + l.val, by omega⟩ := funext fun a => match a with
    | ⟨0, _⟩ => Fin.ext (by show ((r.val * 32 + n.val) * 128 + l.val) / 4096 = r.val; omega)
    | ⟨1, _⟩ => Fin.ext (by show ((r.val * 32 + n.val) * 128 + l.val) % 4096 = 128 * n.val + l.val; omega)
  show val_main_v51 (F := Ideal) (val_main_v25 (F := Ideal) x0 x1 x2) (redR.lift (ix2 r n) l) = _
  rw [val_main_v51_apply, Ideal.hostAbsf_def, Ideal.absf_def, val_main_v50_apply, e, y_eq]

/-- An element of a column's group. -/
theorem v26_eq (n : Fin 240) (l : Fin 128) (cc : Fin 4096) : val_main_v26 (F := Ideal) x0 x1 x2 (ix3 n l cc) = yR x0 x1 x2 ⟨128 * n.val + l.val, by omega⟩ cc := by
  have e : idx_main_v26 (ix3 n l cc) = ix2 ⟨128 * n.val + l.val, by omega⟩ cc := funext fun a => match a with
    | ⟨0, _⟩ => Fin.ext (by show ((n.val * 128 + l.val) * 4096 + cc.val) / 4096 = 128 * n.val + l.val; omega)
    | ⟨1, _⟩ => Fin.ext (by show ((n.val * 128 + l.val) * 4096 + cc.val) % 4096 = cc.val; omega)
  rw [val_main_v26_apply, e, y_eq]

/-- The largest magnitude of a column's group. -/
theorem v28_eq (n : Fin 240) (cc : Fin 4096) : val_main_v28 (F := Ideal) x0 x1 x2 (ix2 n cc) = amax fun l => yR x0 x1 x2 ⟨128 * n.val + l.val, by omega⟩ cc := by
  unfold val_main_v28 amax
  refine (Host.reduce_eq_fold_single _ _ _ _ redC _ _).trans ?_
  refine congrArg (Finset.fold max _ · Finset.univ) (funext fun (l : Fin 128) => ?_)
  have e : redC.lift (ix2 n cc) l = ix3 n l cc := funext fun a => match a with
    | ⟨0, _⟩ => rfl
    | ⟨1, _⟩ => rfl
    | ⟨2, _⟩ => rfl
  show val_main_v27 (F := Ideal) x0 x1 x2 (redC.lift (ix2 n cc) l) = _
  rw [val_main_v27_apply, Ideal.hostAbsf_def, Ideal.absf_def, e, v26_eq]

/-- A minimum along one axis, the axis' length written `n`. -/
theorem min_fold {s t u : Shape} {a : Fin s.rank} (x : FVec Ideal s .f32) (init : FVec Ideal u .f32) (h' : s.ReducesTo [a] t) (h : s.Reduces [a] t)
    (hu : 0 < u.numel) (j : t.Idx) (n : Nat) (hn : s.size a = n) (g : Fin n → EReal) (hg : ∀ e : Fin (s.size a), x (h.lift j e) = g (Fin.cast hn e)) :
    Host.reduce (FloatOps.minimumf (F := Ideal) (φ := .f32)) x init h' hu j = (Finset.univ : Finset (Fin n)).fold min (init (Shape.Idx.first hu)) g := by
  subst hn
  exact (Host.reduce_eq_fold_single _ x init h' h hu j).trans (congrArg (Finset.fold min _ · Finset.univ) (funext hg))

/-- The least power above a row's group's largest magnitude over 448. -/
theorem v68_eq (e0 : S30720x4096.Idx → EReal) (r : Fin 30720) (n : Fin 32) : val_main_v68 (F := Ideal) e0 (ix2 r n)
    = above (val_main_v52 (F := Ideal) e0 (ix2 r n) * Ideal.ofBits .f32 0x3B124925#32) := by
  unfold val_main_v68 above
  refine min_fold _ _ _ redRe _ _ 254 rfl _ fun e => ?_
  have ei : idx_main_v60 (idx_main_v61 (redRe.lift (ix2 r n) e)) = ix2 r n := funext fun a => match a with
    | ⟨0, _⟩ => rfl
    | ⟨1, _⟩ => rfl
  rw [val_main_v64_apply, val_main_v62_apply, Ideal.cmpf_def, val_main_v61_apply, val_main_v60_apply, v57_eq, ei,
    val_main_v59_apply, Ideal.mulf_def, val_main_v58_apply, val_main_cst_15_apply, val_main_v63_apply, val_main_cst_16_apply, Ideal.ofBits_def, Ideal.ofBits_def, top_lit]
  exact pick_above _ _ _ _

/-- The scale of a row's group. -/
theorem v69_eq (e0 : S30720x4096.Idx → EReal) (r : Fin 30720) (n : Fin 32) : val_main_v69 (F := Ideal) e0 (ix2 r n) = scaleF (val_main_v52 (F := Ideal) e0 (ix2 r n)) := by
  have h0 : val_main_v65 (F := Ideal) (ix2 r n) = 0 := by rw [val_main_v65_apply, val_main_cst_17_apply, Ideal.ofBits_def, zero_lit]
  have h1 : val_main_v67 (F := Ideal) (ix2 r n) = 1 := by rw [val_main_v67_apply, val_main_cst_18_apply, Ideal.ofBits_def, one_lit]
  rw [val_main_v69_apply, val_main_v66_apply, Ideal.cmpf_def, h0, h1, v68_eq e0]
  generalize val_main_v52 (F := Ideal) e0 (ix2 r n) = a
  unfold scaleF
  exact pick_zero a (above (a * Ideal.ofBits .f32 0x3B124925#32))

/-- The least power above a column's group's largest magnitude over 448. -/
theorem v44_eq (n : Fin 240) (cc : Fin 4096) : val_main_v44 (F := Ideal) x0 x1 x2 (ix2 n cc)
    = above (val_main_v28 (F := Ideal) x0 x1 x2 (ix2 n cc) * Ideal.ofBits .f32 0x3B124925#32) := by
  unfold val_main_v44 above
  refine min_fold _ _ _ redCe _ _ 254 rfl _ fun e => ?_
  have ei : idx_main_v36 (idx_main_v37 (redCe.lift (ix2 n cc) e)) = ix2 n cc := funext fun a => match a with
    | ⟨0, _⟩ => rfl
    | ⟨1, _⟩ => rfl
  rw [val_main_v40_apply, val_main_v38_apply, Ideal.cmpf_def, val_main_v37_apply, val_main_v36_apply, v33_eq, ei,
    val_main_v35_apply, Ideal.mulf_def, val_main_v34_apply, val_main_cst_7_apply, val_main_v39_apply, val_main_cst_8_apply, Ideal.ofBits_def, Ideal.ofBits_def, top_lit]
  exact pick_above _ _ _ _

/-- The scale of a column's group. -/
theorem v45_eq (n : Fin 240) (cc : Fin 4096) : val_main_v45 (F := Ideal) x0 x1 x2 (ix2 n cc) = scaleF (val_main_v28 (F := Ideal) x0 x1 x2 (ix2 n cc)) := by
  have h0 : val_main_v41 (F := Ideal) (ix2 n cc) = 0 := by rw [val_main_v41_apply, val_main_cst_9_apply, Ideal.ofBits_def, zero_lit]
  have h1 : val_main_v43 (F := Ideal) (ix2 n cc) = 1 := by rw [val_main_v43_apply, val_main_cst_10_apply, Ideal.ofBits_def, one_lit]
  rw [val_main_v45_apply, val_main_v42_apply, Ideal.cmpf_def, h0, h1, v44_eq]
  generalize val_main_v28 (F := Ideal) x0 x1 x2 (ix2 n cc) = a
  unfold scaleF
  exact pick_zero a (above (a * Ideal.ofBits .f32 0x3B124925#32))

/-- The scales of every row's groups. -/
theorem rs_eq : val_main_v70 (F := Ideal) (val_main_v25 (F := Ideal) x0 x1 x2) = rsR (val_main_v0 (F := Ideal) x0) (fun cc => x1 (ix1 cc)) (fun cc => x2 (ix1 cc)) := by
  funext i
  have e : idx_main_v70 i = ix2 (i 1) (i 0) := funext fun a => match a with
    | ⟨0, _⟩ => rfl
    | ⟨1, _⟩ => rfl
  rw [val_main_v70_apply, e]
  exact (v69_eq _ (i 1) (i 0)).trans (congrArg scaleF (v52_eq x0 x1 x2 (i 1) (i 0)))

/-- The scale of a column's group, of its elements. -/
theorem cscale_eq (n : Fin 240) (cc : Fin 4096) : val_main_v45 (F := Ideal) x0 x1 x2 (ix2 n cc) = scaleF (amax fun l => yR x0 x1 x2 ⟨128 * n.val + l.val, by omega⟩ cc) :=
  (v45_eq x0 x1 x2 n cc).trans (congrArg scaleF (v28_eq x0 x1 x2 n cc))

/-- The scales of every column's groups. -/
theorem cs_eq : val_main_v46 (F := Ideal) x0 x1 x2 = csR (val_main_v0 (F := Ideal) x0) (fun cc => x1 (ix1 cc)) (fun cc => x2 (ix1 cc)) := by
  funext i
  have h0 : (i 0).val < 60 := (i 0).isLt
  have h1 : (i 1).val < 4 := (i 1).isLt
  have h2 : (i 2).val < 1 := (i 2).isLt
  have h3 : (i 3).val < 4096 := (i 3).isLt
  have e : idx_main_v46 i = ix2 ⟨(i 0).val * 4 + (i 1).val, by omega⟩ (i 3) := funext fun a => match a with
    | ⟨0, _⟩ => Fin.ext (by show ((((i 0).val * 4 + (i 1).val) * 1 + (i 2).val) * 4096 + (i 3).val) / 4096 = (i 0).val * 4 + (i 1).val; omega)
    | ⟨1, _⟩ => Fin.ext (by show ((((i 0).val * 4 + (i 1).val) * 1 + (i 2).val) * 4096 + (i 3).val) % 4096 = (i 3).val; omega)
  rw [val_main_v46_apply, e]
  refine (cscale_eq x0 x1 x2 _ (i 3)).trans ?_
  refine congrArg (fun h => scaleF (amax h)) (funext fun l => congrArg (fun r => yR x0 x1 x2 r (i 3)) (Fin.ext ?_))
  show 128 * ((i 0).val * 4 + (i 1).val) + l.val = ((i 0).val * 4 + (i 1).val) * 128 + l.val
  omega

/-! ### The columns' codes -/

/-- An element of a group whose largest magnitude is zero is zero. -/
theorem zero_of_amax (g : Fin 128 → EReal) (h : amax g = 0) (r : Fin 128) : g r = 0 := by
  have hm : max (g r) (-(g r)) ≤ 0 := by
    rw [← h]
    exact (Finset.le_fold_max _).mpr (.inr ⟨r, Finset.mem_univ _, le_refl _⟩)
  have h1 : g r ≤ 0 := (le_max_left _ _).trans hm
  have h2 : -(g r) ≤ 0 := (le_max_right _ _).trans hm
  exact le_antisymm h1 (by simpa using EReal.neg_le_neg_iff.mp (by simpa using h2))

/-- A code by the group's scale is the code by the least power above, also in a group of zeros. -/
theorem code_eq (g : Fin 128 → EReal) (r : Fin 128) : clipF (g r * Ideal.div (Ideal.ofBits .f32 0x3F800000#32) (scaleF (amax g))) = codeF (g r) (amax g) := by
  unfold codeF
  by_cases h : amax g = 0
  · rw [zero_of_amax g h r, zero_mul, zero_mul]
  · rw [scaleF, if_neg h]

/-- What the codes' call leaves, of its two operands. -/
def codesR (v : S240x128x4096.Idx → EReal) (s : S240x4096.Idx → EReal) (i : S240x128x4096.Idx) : EReal :=
  clipF (v i * Ideal.div (Ideal.ofBits .f32 0x3F800000#32) (s (ix2 (i 0) (i 2))))

/-- A group's value laid along its 128 elements. -/
theorem along_apply (u : S240x4096.Idx → EReal) (n : Fin 240) (l : Fin 128) (cc : Fin 4096) :
    broadcastTo S240x128x4096 (shapeCast S240x1x4096 u shapeCasts_S240x4096_S240x1x4096) broadcasts_S240x1x4096_S240x128x4096 (ix3 n l cc) = u (ix2 n cc) := by
  refine (broadcastTo_apply _ _ (ix3 n l cc) (ix3 n (0 : Fin 1) cc) fun a => ?_).trans ?_
  · match a with
    | ⟨0, _⟩ => rfl
    | ⟨1, _⟩ => rfl
    | ⟨2, _⟩ => rfl
  · refine shapeCast_apply u shapeCasts_S240x4096_S240x1x4096 _ _ ?_
    rewrite [Shape.rowMajor_val_two, Shape.rowMajor_val_three]
    show n.val * 4096 + cc.val = (n.val * 1 + 0) * 4096 + cc.val
    omega

theorem pay_eq (v : Vec Ideal S240x128x4096 .f32) (s : Vec Ideal S240x4096 .f32) : k0_pay1 (F := Ideal) v s = codesR v s := by
  funext i
  unfold codesR clipF
  rw [max_comm, min_comm]
  unfold k0_pay1
  rw [shapeCast_self v, shapeCast_self s]
  have ei : i = ix3 (i 0) (i 1) (i 2) := funext fun a => match a with
    | ⟨0, _⟩ => rfl
    | ⟨1, _⟩ => rfl
    | ⟨2, _⟩ => rfl
  have e := (congrArg (broadcastTo S240x128x4096 (shapeCast S240x1x4096 (divf (broadcast S240x4096 (Scalar.ofBits (F := Ideal) .f32 0x3F800000#32)) s)
    shapeCasts_S240x4096_S240x1x4096) broadcasts_S240x1x4096_S240x128x4096) ei).trans (along_apply _ (i 0) (i 1) (i 2))
  exact congrArg (fun w : EReal => min (Ideal.ofBits .f32 0x43E00000#32) (max (Ideal.ofBits .f32 0xC3E00000#32) (v i * w))) e

/-- The code of an element of a column's group. -/
theorem codes_at (n : Fin 240) (l : Fin 128) (cc : Fin 4096) : codesR (val_main_v26 (F := Ideal) x0 x1 x2) (val_main_v45 (F := Ideal) x0 x1 x2) (ix3 n l cc)
    = codeF (yR x0 x1 x2 ⟨128 * n.val + l.val, by omega⟩ cc) (amax fun l => yR x0 x1 x2 ⟨128 * n.val + l.val, by omega⟩ cc) := by
  refine Eq.trans ?_ (code_eq (fun l => yR x0 x1 x2 ⟨128 * n.val + l.val, by omega⟩ cc) l)
  exact congrArg₂ (fun v s => clipF (v * Ideal.div (Ideal.ofBits .f32 0x3F800000#32) s)) (v26_eq x0 x1 x2 n l cc) (cscale_eq x0 x1 x2 n cc)
end

variable (m : (ℓ : Loc nD τ sig) → Buf (Elt Ideal) ℓ) (c : Dev nD)

theorem index0 : ∀ t : Fin cfg0.N, win0_0.index t = ![0, 0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0, 0] := (by decide +kernel : ∀ t : Fin grid0.N, _)

/-- Each window's one block is its array. -/
theorem blk0 (t : Fin cfg0.N) (A : S240x128x4096.Idx → EReal) (y : S240x128x4096.Idx) : A ((win0_0.blk t).view.emb y) = A y := by
  refine congrArg A ?_
  blk_ext [index0]
theorem blk1 (t : Fin cfg0.N) (A : S240x4096.Idx → EReal) (y : S240x4096.Idx) : A ((win0_1.blk t).view.emb y) = A y := by
  refine congrArg A ?_
  blk_ext [index1]
theorem blk2 (t : Fin cfg0.N) (A : S240x128x4096.Idx → EReal) (y : S240x128x4096.Idx) : A ((win0_2.blk t).view.emb y) = A y := by
  refine congrArg A ?_
  blk_ext [index2]

/-- A window's block of an array of the given contents. -/
theorem rd0 (t : Fin cfg0.N) (X : BufTy.Contents (Elt Ideal) (win0_0.blk t).view.ty) (A : S240x128x4096.Idx → EReal) (h : X = A) :
    (win0_0.blk t).view.read (Elt Ideal) X = A := by
  subst h
  exact funext fun y => blk0 t _ y
theorem rd1 (t : Fin cfg0.N) (X : BufTy.Contents (Elt Ideal) (win0_1.blk t).view.ty) (A : S240x4096.Idx → EReal) (h : X = A) :
    (win0_1.blk t).view.read (Elt Ideal) X = A := by
  subst h
  exact funext fun y => blk1 t _ y

theorem in0 (t : Fin cfg0.N) (A : S240x128x4096.Idx → EReal) (h : V m c main_v26 = A) : iblk m c 0 t = A := by
  unfold iblk
  exact rd0 t _ A h
theorem in1 (t : Fin cfg0.N) (A : S240x4096.Idx → EReal) (h : V m c main_v45 = A) : iblk m c 1 t = A := by
  unfold iblk
  exact rd1 t _ A h

/-- What the codes' call leaves in its result array, of what it finds in its operands'. -/
theorem reg_eq (A : S240x128x4096.Idx → EReal) (B : S240x4096.Idx → EReal) (hA : V m c main_v26 = A) (hB : V m c main_v45 = B) :
    Value.reg_main_v47 (F := Ideal) m c = codesR A B := by
  unfold Value.reg_main_v47
  refine (Gen.dats m 0 c).arrAt_eq_of_covers 2 _ (by decide +kernel) fun t hf y => ?_
  blk_simp
  have ha : (Gen.dats m 0 c).after 2 t = codesR A B := by
    rw [Gen.after0_2, in0 m c t A hA, in1 m c t B hB]
    unfold out0_2
    rw [View.canon_cons_unit_lit _ _ _ (by decide), View.ld_unit_lit _ _ (by decide), View.ld_unit_lit _ _ (by decide), pay_eq]
  exact (congrFun ha y).trans (blk2 t (codesR A B) y).symm

/-- The codes of every column. -/
theorem cc_eq : val_main_v49 (F := Ideal) (Value.reg_main_v47 (F := Ideal) m c) = ccR (val_main_v0 (F := Ideal) (m ((c.tc : Thread nD τ).loc main_arg0)))
    (fun cc => m ((c.tc : Thread nD τ).loc main_arg1) (ix1 cc)) (fun cc => m ((c.tc : Thread nD τ).loc main_arg2) (ix1 cc)) := by
  rw [reg_eq m c _ _ (in_v26 m c) (in_v45 m c)]
  funext i
  have h0 : (i 0).val < 4096 := (i 0).isLt
  have h1 : (i 1).val < 30720 := (i 1).isLt
  have e : idx_main_v48 (idx_main_v49 i) = ix3 ⟨(i 1).val / 128, by omega⟩ ⟨(i 1).val % 128, by omega⟩ (i 0) := funext fun a => match a with
    | ⟨0, _⟩ => Fin.ext (by show ((i 1).val * 4096 + (i 0).val) / 524288 = (i 1).val / 128; omega)
    | ⟨1, _⟩ => Fin.ext (by show ((i 1).val * 4096 + (i 0).val) / 4096 % 128 = (i 1).val % 128; omega)
    | ⟨2, _⟩ => Fin.ext (by show ((i 1).val * 4096 + (i 0).val) % 4096 = (i 0).val; omega)
  rw [val_main_v49_apply, val_main_v48_apply, e]
  exact (codes_at _ _ _ _ _ _).trans rfl

section
variable {F : FTy → Type} [FloatOps F]
/-- The reference's run, its results by the operations' values. -/
theorem runVal (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70) = val_main_v70 (F := F) (val_main_v25 (F := F) (m ((c.tc : Thread nD τ).loc main_arg0)) (m ((c.tc : Thread nD τ).loc main_arg1)) (m ((c.tc : Thread nD τ).loc main_arg2)))
      ∧ r.2.mem ((c.tc : Thread nD τ).loc main_v49) = val_main_v49 (F := F) (Value.reg_main_v47 m c)
      ∧ r.2.mem ((c.tc : Thread nD τ).loc main_v46) = val_main_v46 (F := F) (m ((c.tc : Thread nD τ).loc main_arg0)) (m ((c.tc : Thread nD τ).loc main_arg1)) (m ((c.tc : Thread nD τ).loc main_arg2))
      ∧ r.2.mem ((c.tc : Thread nD τ).loc main_v71) = val_main_v71 (F := F) (val_main_v14 (F := F) (m ((c.tc : Thread nD τ).loc main_arg0)))
      ∧ r.2.mem ((c.tc : Thread nD τ).loc main_v72) = val_main_v72 (F := F) (val_main_v4 (F := F) (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2.1.trans rfl, (h c).2.2.1.trans rfl, (h c).2.2.2.1.trans rfl, (h c).2.2.2.2.1.trans rfl, (h c).2.2.2.2.2⟩)
    (Cert.ReferenceIdeal.Value.run (F := F) m ρ)
end

/-- The reference ends with the scales, the columns' codes and the two statistics of every token, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v70) = rsR (val_main_v0 (F := Ideal) (m ((c.tc : Thread nD τ).loc main_arg0)))
        (fun cc => m ((c.tc : Thread nD τ).loc main_arg1) (ix1 cc)) (fun cc => m ((c.tc : Thread nD τ).loc main_arg2) (ix1 cc))
      ∧ r.2.mem ((c.tc : Thread nD τ).loc main_v49) = ccR (val_main_v0 (F := Ideal) (m ((c.tc : Thread nD τ).loc main_arg0)))
        (fun cc => m ((c.tc : Thread nD τ).loc main_arg1) (ix1 cc)) (fun cc => m ((c.tc : Thread nD τ).loc main_arg2) (ix1 cc))
      ∧ r.2.mem ((c.tc : Thread nD τ).loc main_v46) = csR (val_main_v0 (F := Ideal) (m ((c.tc : Thread nD τ).loc main_arg0)))
        (fun cc => m ((c.tc : Thread nD τ).loc main_arg1) (ix1 cc)) (fun cc => m ((c.tc : Thread nD τ).loc main_arg2) (ix1 cc))
      ∧ r.2.mem ((c.tc : Thread nD τ).loc main_v71) = stat sigF (val_main_v0 (F := Ideal) (m ((c.tc : Thread nD τ).loc main_arg0)))
      ∧ r.2.mem ((c.tc : Thread nD τ).loc main_v72) = stat muF (val_main_v0 (F := Ideal) (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (rs_eq _ _ _), (h c).2.1.trans (cc_eq m c), (h c).2.2.1.trans (cs_eq _ _ _),
      (h c).2.2.2.1.trans (sig_eq _), (h c).2.2.2.2.1.trans (mu_eq _), (h c).2.2.2.2.2⟩) (runVal (F := Ideal) m ρ)

end Cert.Proof.Value.Ref

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Frame.Run
public import proofs.«01_k».proof.Proof.FrameIdeal.Run
public import proofs.«01_k».proof.Proof.Value.Ref

@[expose] public section

noncomputable section

namespace Cert.Proof

open Idealize.ShloMosaic Idealize.SL.Sem

/-- The kernel and the reference end with the same scales, column codes and statistics over the reals. -/
theorem algebraic : Cert.algebraic_KernelIdeal_ReferenceIdeal (hKernelIdeal := Cert.KernelIdeal.Gen.facts) (hReferenceIdeal := Cert.ReferenceIdeal.Gen.facts) := by
  intro m g m' g' _ hargs
  have e : ∀ c : Dev Cert.KernelIdeal.nD, Cert.ReferenceIdeal.Read.val_main_v0 (F := Ideal) (m' ((c.tc : Thread Cert.ReferenceIdeal.nD Cert.ReferenceIdeal.τ).loc Cert.ReferenceIdeal.main_arg0))
      = Value.X0 m c := fun c => by
    rw [(hargs c).1, Value.X0_eq]; rfl
  have eg : ∀ c : Dev Cert.KernelIdeal.nD, (fun cc => m' ((c.tc : Thread Cert.ReferenceIdeal.nD Cert.ReferenceIdeal.τ).loc Cert.ReferenceIdeal.main_arg1) (ix1 cc))
      = Value.G0 m c := fun c => funext fun cc => by
    rw [(hargs c).2.1]; exact (Value.G0_eq m c cc).symm
  have eb : ∀ c : Dev Cert.KernelIdeal.nD, (fun cc => m' ((c.tc : Thread Cert.ReferenceIdeal.nD Cert.ReferenceIdeal.τ).loc Cert.ReferenceIdeal.main_arg2) (ix1 cc))
      = Value.T0 m c := fun c => funext fun cc => by
    rw [(hargs c).2.2]; exact (Value.T0_eq m c cc).symm
  refine ⟨fun c => Value.rsR (Value.X0 m c) (Value.G0 m c) (Value.T0 m c), fun c => Value.ccR (Value.X0 m c) (Value.G0 m c) (Value.T0 m c), fun c => Value.csR (Value.X0 m c) (Value.G0 m c) (Value.T0 m c),
    fun c => Value.stat Value.sigF (Value.X0 m c), fun c => Value.stat Value.muF (Value.X0 m c), Value.run m g, ?_⟩
  refine (θ_run Cert.ReferenceIdeal.defs _ _).mono (fun r h c => ⟨(h c).1.trans ?_, (h c).2.1.trans ?_, (h c).2.2.1.trans ?_, (h c).2.2.2.1.trans ?_, (h c).2.2.2.2.1.trans ?_, (h c).2.2.2.2.2⟩)
    (Value.Ref.run m' g')
  · exact congr (congr (congrArg Value.rsR (e c)) (eg c)) (eb c)
  · exact congr (congr (congrArg Value.ccR (e c)) (eg c)) (eb c)
  · exact congr (congr (congrArg Value.csR (e c)) (eg c)) (eb c)
  · exact congrArg _ (e c)
  · exact congrArg _ (e c)

theorem claim : Cert.Claim :=
  ⟨Cert.Kernel.Gen.facts, Cert.KernelIdeal.Gen.facts, Cert.ReferenceIdeal.Gen.facts,
    fun m g _ => Cert.Proof.Kernel.frame m g,
    fun m g _ => Cert.Proof.KernelIdeal.frame m g,
    fun m g _ => Cert.ReferenceIdeal.Gen.frame m g,
    trivial, algebraic⟩

end Cert.Proof

end
